-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S16x32x512 : Shape := ⟨3, ![16, 32, 512]⟩
abbrev S32x512 : Shape := ⟨2, ![32, 512]⟩
abbrev S16 : Shape := ⟨1, ![16]⟩
abbrev S_ : Shape := ⟨0, ![]⟩
abbrev S1 : Shape := ⟨1, ![1]⟩
abbrev S1x32x512 : Shape := ⟨3, ![1, 32, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .f32⟩
  | .local _ .vmem, ⟨0, _⟩ => ⟨S512x256, .bf16⟩
  | .local _ .vmem, ⟨1, _⟩ => ⟨S256x512, .bf16⟩
  | .local _ .vmem, ⟨2, _⟩ => ⟨S512x512, .f32⟩
  | .local _ .vmem, ⟨3, _⟩ => ⟨S512x512, .bf16⟩
  | .local _ .vmem, ⟨4, _⟩ => ⟨S16x32x512, .bf16⟩
  | .local _ .vmem, ⟨5, _⟩ => ⟨S32x512, .bf16⟩
  | .local _ .vmem, ⟨6, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_141 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  ![v218.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let c0_i32_151 : BitVec 32 := 0#32
  ![v2.toNat, 0, 0]
def k0_off4 (d0 : Dev nD) (c1_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c32_i32 : BitVec 32 := 32#32
  let v219 : BitVec 32 := Scalar.muli v218 c32_i32
  let c0_i32_152 : BitVec 32 := 0#32
  ![v219.toNat, 0]
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c1_i32_148 : BitVec 32 := 1#32
  let v220 : BitVec 32 := Scalar.muli v218 c1_i32_148
  let v221 : BitVec 32 := Scalar.addi c0_i32_149 v220
  v221.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v229 : BitVec 32 := Scalar.addi v2 c2_i32_153
  let c16_i32_154 : BitVec 32 := 16#32
  let c0_i32_155 : BitVec 32 := 0#32
  let v230 : BitVec 1 := Scalar.cmpi .eq c16_i32_154 c0_i32_155
  let c1_i32_156 : BitVec 32 := 1#32
  let v231 : BitVec 32 := Scalar.select v230 c1_i32_156 c16_i32_154
  let v232 : BitVec 32 := Scalar.remsi v229 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let c1_i32_161 : BitVec 32 := 1#32
  let v241 : BitVec 32 := Scalar.muli v239 c1_i32_161
  let v242 : BitVec 32 := Scalar.addi c0_i32_162 v241
  v242.toNat
def k0_dev18 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_166 : BitVec 32 := 3#32
  let v250 : BitVec 32 := Scalar.addi v2 c3_i32_166
  let c16_i32_167 : BitVec 32 := 16#32
  let c0_i32_168 : BitVec 32 := 0#32
  let v251 : BitVec 1 := Scalar.cmpi .eq c16_i32_167 c0_i32_168
  let c1_i32_169 : BitVec 32 := 1#32
  let v252 : BitVec 32 := Scalar.select v251 c1_i32_169 c16_i32_167
  let v253 : BitVec 32 := Scalar.remsi v250 v252
  let c0_i32_171 : BitVec 32 := 0#32
  let v255 : BitVec 1 := Scalar.cmpi .slt v253 c0_i32_171
  let c0_i32_172 : BitVec 32 := 0#32
  let v256 : BitVec 1 := Scalar.cmpi .slt v252 c0_i32_172
  let v257 : BitVec 1 := Scalar.xori v255 v256
  let c0_i32_170 : BitVec 32 := 0#32
  let v254 : BitVec 1 := Scalar.cmpi .ne v253 c0_i32_170
  let v258 : BitVec 1 := Scalar.andi v257 v254
  let v259 : BitVec 32 := Scalar.addi v253 v252
  let v260 : BitVec 32 := Scalar.select v258 v259 v253
  let c1_i32_174 : BitVec 32 := 1#32
  let v262 : BitVec 32 := Scalar.muli v260 c1_i32_174
  let v263 : BitVec 32 := Scalar.addi c0_i32_175 v262
  v263.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_179 : BitVec 32 := 4#32
  let v271 : BitVec 32 := Scalar.addi v2 c4_i32_179
  let c16_i32_180 : BitVec 32 := 16#32
  let c0_i32_181 : BitVec 32 := 0#32
  let v272 : BitVec 1 := Scalar.cmpi .eq c16_i32_180 c0_i32_181
  let c1_i32_182 : BitVec 32 := 1#32
  let v273 : BitVec 32 := Scalar.select v272 c1_i32_182 c16_i32_180
  let v274 : BitVec 32 := Scalar.remsi v271 v273
  let c0_i32_184 : BitVec 32 := 0#32
  let v276 : BitVec 1 := Scalar.cmpi .slt v274 c0_i32_184
  let c0_i32_185 : BitVec 32 := 0#32
  let v277 : BitVec 1 := Scalar.cmpi .slt v273 c0_i32_185
  let v278 : BitVec 1 := Scalar.xori v276 v277
  let c0_i32_183 : BitVec 32 := 0#32
  let v275 : BitVec 1 := Scalar.cmpi .ne v274 c0_i32_183
  let v279 : BitVec 1 := Scalar.andi v278 v275
  let v280 : BitVec 32 := Scalar.addi v274 v273
  let v281 : BitVec 32 := Scalar.select v279 v280 v274
  let c1_i32_187 : BitVec 32 := 1#32
  let v283 : BitVec 32 := Scalar.muli v281 c1_i32_187
  let v284 : BitVec 32 := Scalar.addi c0_i32_188 v283
  v284.toNat
def k0_dev20 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_192 : BitVec 32 := 5#32
  let v292 : BitVec 32 := Scalar.addi v2 c5_i32_192
  let c16_i32_193 : BitVec 32 := 16#32
  let c0_i32_194 : BitVec 32 := 0#32
  let v293 : BitVec 1 := Scalar.cmpi .eq c16_i32_193 c0_i32_194
  let c1_i32_195 : BitVec 32 := 1#32
  let v294 : BitVec 32 := Scalar.select v293 c1_i32_195 c16_i32_193
  let v295 : BitVec 32 := Scalar.remsi v292 v294
  let c0_i32_197 : BitVec 32 := 0#32
  let v297 : BitVec 1 := Scalar.cmpi .slt v295 c0_i32_197
  let c0_i32_198 : BitVec 32 := 0#32
  let v298 : BitVec 1 := Scalar.cmpi .slt v294 c0_i32_198
  let v299 : BitVec 1 := Scalar.xori v297 v298
  let c0_i32_196 : BitVec 32 := 0#32
  let v296 : BitVec 1 := Scalar.cmpi .ne v295 c0_i32_196
  let v300 : BitVec 1 := Scalar.andi v299 v296
  let v301 : BitVec 32 := Scalar.addi v295 v294
  let v302 : BitVec 32 := Scalar.select v300 v301 v295
  let c1_i32_200 : BitVec 32 := 1#32
  let v304 : BitVec 32 := Scalar.muli v302 c1_i32_200
  let v305 : BitVec 32 := Scalar.addi c0_i32_201 v304
  v305.toNat
def k0_dev21 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_205 : BitVec 32 := 6#32
  let v313 : BitVec 32 := Scalar.addi v2 c6_i32_205
  let c16_i32_206 : BitVec 32 := 16#32
  let c0_i32_207 : BitVec 32 := 0#32
  let v314 : BitVec 1 := Scalar.cmpi .eq c16_i32_206 c0_i32_207
  let c1_i32_208 : BitVec 32 := 1#32
  let v315 : BitVec 32 := Scalar.select v314 c1_i32_208 c16_i32_206
  let v316 : BitVec 32 := Scalar.remsi v313 v315
  let c0_i32_210 : BitVec 32 := 0#32
  let v318 : BitVec 1 := Scalar.cmpi .slt v316 c0_i32_210
  let c0_i32_211 : BitVec 32 := 0#32
  let v319 : BitVec 1 := Scalar.cmpi .slt v315 c0_i32_211
  let v320 : BitVec 1 := Scalar.xori v318 v319
  let c0_i32_209 : BitVec 32 := 0#32
  let v317 : BitVec 1 := Scalar.cmpi .ne v316 c0_i32_209
  let v321 : BitVec 1 := Scalar.andi v320 v317
  let v322 : BitVec 32 := Scalar.addi v316 v315
  let v323 : BitVec 32 := Scalar.select v321 v322 v316
  let c1_i32_213 : BitVec 32 := 1#32
  let v325 : BitVec 32 := Scalar.muli v323 c1_i32_213
  let v326 : BitVec 32 := Scalar.addi c0_i32_214 v325
  v326.toNat
def k0_dev22 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_218 : BitVec 32 := 7#32
  let v334 : BitVec 32 := Scalar.addi v2 c7_i32_218
  let c16_i32_219 : BitVec 32 := 16#32
  let c0_i32_220 : BitVec 32 := 0#32
  let v335 : BitVec 1 := Scalar.cmpi .eq c16_i32_219 c0_i32_220
  let c1_i32_221 : BitVec 32 := 1#32
  let v336 : BitVec 32 := Scalar.select v335 c1_i32_221 c16_i32_219
  let v337 : BitVec 32 := Scalar.remsi v334 v336
  let c0_i32_223 : BitVec 32 := 0#32
  let v339 : BitVec 1 := Scalar.cmpi .slt v337 c0_i32_223
  let c0_i32_224 : BitVec 32 := 0#32
  let v340 : BitVec 1 := Scalar.cmpi .slt v336 c0_i32_224
  let v341 : BitVec 1 := Scalar.xori v339 v340
  let c0_i32_222 : BitVec 32 := 0#32
  let v338 : BitVec 1 := Scalar.cmpi .ne v337 c0_i32_222
  let v342 : BitVec 1 := Scalar.andi v341 v338
  let v343 : BitVec 32 := Scalar.addi v337 v336
  let v344 : BitVec 32 := Scalar.select v342 v343 v337
  let c1_i32_226 : BitVec 32 := 1#32
  let v346 : BitVec 32 := Scalar.muli v344 c1_i32_226
  let v347 : BitVec 32 := Scalar.addi c0_i32_227 v346
  v347.toNat
def k0_dev23 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_231 : BitVec 32 := 8#32
  let v355 : BitVec 32 := Scalar.addi v2 c8_i32_231
  let c16_i32_232 : BitVec 32 := 16#32
  let c0_i32_233 : BitVec 32 := 0#32
  let v356 : BitVec 1 := Scalar.cmpi .eq c16_i32_232 c0_i32_233
  let c1_i32_234 : BitVec 32 := 1#32
  let v357 : BitVec 32 := Scalar.select v356 c1_i32_234 c16_i32_232
  let v358 : BitVec 32 := Scalar.remsi v355 v357
  let c0_i32_236 : BitVec 32 := 0#32
  let v360 : BitVec 1 := Scalar.cmpi .slt v358 c0_i32_236
  let c0_i32_237 : BitVec 32 := 0#32
  let v361 : BitVec 1 := Scalar.cmpi .slt v357 c0_i32_237
  let v362 : BitVec 1 := Scalar.xori v360 v361
  let c0_i32_235 : BitVec 32 := 0#32
  let v359 : BitVec 1 := Scalar.cmpi .ne v358 c0_i32_235
  let v363 : BitVec 1 := Scalar.andi v362 v359
  let v364 : BitVec 32 := Scalar.addi v358 v357
  let v365 : BitVec 32 := Scalar.select v363 v364 v358
  let c1_i32_239 : BitVec 32 := 1#32
  let v367 : BitVec 32 := Scalar.muli v365 c1_i32_239
  let v368 : BitVec 32 := Scalar.addi c0_i32_240 v367
  v368.toNat
def k0_dev24 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_244 : BitVec 32 := 9#32
  let v376 : BitVec 32 := Scalar.addi v2 c9_i32_244
  let c16_i32_245 : BitVec 32 := 16#32
  let c0_i32_246 : BitVec 32 := 0#32
  let v377 : BitVec 1 := Scalar.cmpi .eq c16_i32_245 c0_i32_246
  let c1_i32_247 : BitVec 32 := 1#32
  let v378 : BitVec 32 := Scalar.select v377 c1_i32_247 c16_i32_245
  let v379 : BitVec 32 := Scalar.remsi v376 v378
  let c0_i32_249 : BitVec 32 := 0#32
  let v381 : BitVec 1 := Scalar.cmpi .slt v379 c0_i32_249
  let c0_i32_250 : BitVec 32 := 0#32
  let v382 : BitVec 1 := Scalar.cmpi .slt v378 c0_i32_250
  let v383 : BitVec 1 := Scalar.xori v381 v382
  let c0_i32_248 : BitVec 32 := 0#32
  let v380 : BitVec 1 := Scalar.cmpi .ne v379 c0_i32_248
  let v384 : BitVec 1 := Scalar.andi v383 v380
  let v385 : BitVec 32 := Scalar.addi v379 v378
  let v386 : BitVec 32 := Scalar.select v384 v385 v379
  let c1_i32_252 : BitVec 32 := 1#32
  let v388 : BitVec 32 := Scalar.muli v386 c1_i32_252
  let v389 : BitVec 32 := Scalar.addi c0_i32_253 v388
  v389.toNat
def k0_dev25 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_257 : BitVec 32 := 10#32
  let v397 : BitVec 32 := Scalar.addi v2 c10_i32_257
  let c16_i32_258 : BitVec 32 := 16#32
  let c0_i32_259 : BitVec 32 := 0#32
  let v398 : BitVec 1 := Scalar.cmpi .eq c16_i32_258 c0_i32_259
  let c1_i32_260 : BitVec 32 := 1#32
  let v399 : BitVec 32 := Scalar.select v398 c1_i32_260 c16_i32_258
  let v400 : BitVec 32 := Scalar.remsi v397 v399
  let c0_i32_262 : BitVec 32 := 0#32
  let v402 : BitVec 1 := Scalar.cmpi .slt v400 c0_i32_262
  let c0_i32_263 : BitVec 32 := 0#32
  let v403 : BitVec 1 := Scalar.cmpi .slt v399 c0_i32_263
  let v404 : BitVec 1 := Scalar.xori v402 v403
  let c0_i32_261 : BitVec 32 := 0#32
  let v401 : BitVec 1 := Scalar.cmpi .ne v400 c0_i32_261
  let v405 : BitVec 1 := Scalar.andi v404 v401
  let v406 : BitVec 32 := Scalar.addi v400 v399
  let v407 : BitVec 32 := Scalar.select v405 v406 v400
  let c1_i32_265 : BitVec 32 := 1#32
  let v409 : BitVec 32 := Scalar.muli v407 c1_i32_265
  let v410 : BitVec 32 := Scalar.addi c0_i32_266 v409
  v410.toNat
def k0_dev26 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_270 : BitVec 32 := 11#32
  let v418 : BitVec 32 := Scalar.addi v2 c11_i32_270
  let c16_i32_271 : BitVec 32 := 16#32
  let c0_i32_272 : BitVec 32 := 0#32
  let v419 : BitVec 1 := Scalar.cmpi .eq c16_i32_271 c0_i32_272
  let c1_i32_273 : BitVec 32 := 1#32
  let v420 : BitVec 32 := Scalar.select v419 c1_i32_273 c16_i32_271
  let v421 : BitVec 32 := Scalar.remsi v418 v420
  let c0_i32_275 : BitVec 32 := 0#32
  let v423 : BitVec 1 := Scalar.cmpi .slt v421 c0_i32_275
  let c0_i32_276 : BitVec 32 := 0#32
  let v424 : BitVec 1 := Scalar.cmpi .slt v420 c0_i32_276
  let v425 : BitVec 1 := Scalar.xori v423 v424
  let c0_i32_274 : BitVec 32 := 0#32
  let v422 : BitVec 1 := Scalar.cmpi .ne v421 c0_i32_274
  let v426 : BitVec 1 := Scalar.andi v425 v422
  let v427 : BitVec 32 := Scalar.addi v421 v420
  let v428 : BitVec 32 := Scalar.select v426 v427 v421
  let c1_i32_278 : BitVec 32 := 1#32
  let v430 : BitVec 32 := Scalar.muli v428 c1_i32_278
  let v431 : BitVec 32 := Scalar.addi c0_i32_279 v430
  v431.toNat
def k0_dev27 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_283 : BitVec 32 := 12#32
  let v439 : BitVec 32 := Scalar.addi v2 c12_i32_283
  let c16_i32_284 : BitVec 32 := 16#32
  let c0_i32_285 : BitVec 32 := 0#32
  let v440 : BitVec 1 := Scalar.cmpi .eq c16_i32_284 c0_i32_285
  let c1_i32_286 : BitVec 32 := 1#32
  let v441 : BitVec 32 := Scalar.select v440 c1_i32_286 c16_i32_284
  let v442 : BitVec 32 := Scalar.remsi v439 v441
  let c0_i32_288 : BitVec 32 := 0#32
  let v444 : BitVec 1 := Scalar.cmpi .slt v442 c0_i32_288
  let c0_i32_289 : BitVec 32 := 0#32
  let v445 : BitVec 1 := Scalar.cmpi .slt v441 c0_i32_289
  let v446 : BitVec 1 := Scalar.xori v444 v445
  let c0_i32_287 : BitVec 32 := 0#32
  let v443 : BitVec 1 := Scalar.cmpi .ne v442 c0_i32_287
  let v447 : BitVec 1 := Scalar.andi v446 v443
  let v448 : BitVec 32 := Scalar.addi v442 v441
  let v449 : BitVec 32 := Scalar.select v447 v448 v442
  let c1_i32_291 : BitVec 32 := 1#32
  let v451 : BitVec 32 := Scalar.muli v449 c1_i32_291
  let v452 : BitVec 32 := Scalar.addi c0_i32_292 v451
  v452.toNat
def k0_dev28 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_296 : BitVec 32 := 13#32
  let v460 : BitVec 32 := Scalar.addi v2 c13_i32_296
  let c16_i32_297 : BitVec 32 := 16#32
  let c0_i32_298 : BitVec 32 := 0#32
  let v461 : BitVec 1 := Scalar.cmpi .eq c16_i32_297 c0_i32_298
  let c1_i32_299 : BitVec 32 := 1#32
  let v462 : BitVec 32 := Scalar.select v461 c1_i32_299 c16_i32_297
  let v463 : BitVec 32 := Scalar.remsi v460 v462
  let c0_i32_301 : BitVec 32 := 0#32
  let v465 : BitVec 1 := Scalar.cmpi .slt v463 c0_i32_301
  let c0_i32_302 : BitVec 32 := 0#32
  let v466 : BitVec 1 := Scalar.cmpi .slt v462 c0_i32_302
  let v467 : BitVec 1 := Scalar.xori v465 v466
  let c0_i32_300 : BitVec 32 := 0#32
  let v464 : BitVec 1 := Scalar.cmpi .ne v463 c0_i32_300
  let v468 : BitVec 1 := Scalar.andi v467 v464
  let v469 : BitVec 32 := Scalar.addi v463 v462
  let v470 : BitVec 32 := Scalar.select v468 v469 v463
  let c1_i32_304 : BitVec 32 := 1#32
  let v472 : BitVec 32 := Scalar.muli v470 c1_i32_304
  let v473 : BitVec 32 := Scalar.addi c0_i32_305 v472
  v473.toNat
def k0_dev29 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_309 : BitVec 32 := 14#32
  let v481 : BitVec 32 := Scalar.addi v2 c14_i32_309
  let c16_i32_310 : BitVec 32 := 16#32
  let c0_i32_311 : BitVec 32 := 0#32
  let v482 : BitVec 1 := Scalar.cmpi .eq c16_i32_310 c0_i32_311
  let c1_i32_312 : BitVec 32 := 1#32
  let v483 : BitVec 32 := Scalar.select v482 c1_i32_312 c16_i32_310
  let v484 : BitVec 32 := Scalar.remsi v481 v483
  let c0_i32_314 : BitVec 32 := 0#32
  let v486 : BitVec 1 := Scalar.cmpi .slt v484 c0_i32_314
  let c0_i32_315 : BitVec 32 := 0#32
  let v487 : BitVec 1 := Scalar.cmpi .slt v483 c0_i32_315
  let v488 : BitVec 1 := Scalar.xori v486 v487
  let c0_i32_313 : BitVec 32 := 0#32
  let v485 : BitVec 1 := Scalar.cmpi .ne v484 c0_i32_313
  let v489 : BitVec 1 := Scalar.andi v488 v485
  let v490 : BitVec 32 := Scalar.addi v484 v483
  let v491 : BitVec 32 := Scalar.select v489 v490 v484
  let c1_i32_317 : BitVec 32 := 1#32
  let v493 : BitVec 32 := Scalar.muli v491 c1_i32_317
  let v494 : BitVec 32 := Scalar.addi c0_i32_318 v493
  v494.toNat
def k0_dev30 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_322 : BitVec 32 := 15#32
  let v502 : BitVec 32 := Scalar.addi v2 c15_i32_322
  let c16_i32_323 : BitVec 32 := 16#32
  let c0_i32_324 : BitVec 32 := 0#32
  let v503 : BitVec 1 := Scalar.cmpi .eq c16_i32_323 c0_i32_324
  let c1_i32_325 : BitVec 32 := 1#32
  let v504 : BitVec 32 := Scalar.select v503 c1_i32_325 c16_i32_323
  let v505 : BitVec 32 := Scalar.remsi v502 v504
  let c0_i32_327 : BitVec 32 := 0#32
  let v507 : BitVec 1 := Scalar.cmpi .slt v505 c0_i32_327
  let c0_i32_328 : BitVec 32 := 0#32
  let v508 : BitVec 1 := Scalar.cmpi .slt v504 c0_i32_328
  let v509 : BitVec 1 := Scalar.xori v507 v508
  let c0_i32_326 : BitVec 32 := 0#32
  let v506 : BitVec 1 := Scalar.cmpi .ne v505 c0_i32_326
  let v510 : BitVec 1 := Scalar.andi v509 v506
  let v511 : BitVec 32 := Scalar.addi v505 v504
  let v512 : BitVec 32 := Scalar.select v510 v511 v505
  let c1_i32_330 : BitVec 32 := 1#32
  let v514 : BitVec 32 := Scalar.muli v512 c1_i32_330
  let v515 : BitVec 32 := Scalar.addi c0_i32_331 v514
  v515.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_335 : BitVec 32 := 32#32
  let v523 : BitVec 32 := Scalar.muli v2 c32_i32_335
  let v524 : Index := Scalar.indexCast v523
  let c0_336 : Index := 0#32
  ![v524.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v526 : Index := Scalar.indexCast v2
  let c0_337 : Index := 0#32
  let c0_338 : Index := 0#32
  ![v526.toNat, 0, 0]
def k0_off7 (d0 : Dev nD) (c1_i32_339 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.subi v2 c1_i32_339
  let c16_i32_340 : BitVec 32 := 16#32
  let c0_i32_341 : BitVec 32 := 0#32
  let v531 : BitVec 1 := Scalar.cmpi .eq c16_i32_340 c0_i32_341
  let c1_i32_342 : BitVec 32 := 1#32
  let v532 : BitVec 32 := Scalar.select v531 c1_i32_342 c16_i32_340
  let v533 : BitVec 32 := Scalar.remsi v530 v532
  let c0_i32_344 : BitVec 32 := 0#32
  let v535 : BitVec 1 := Scalar.cmpi .slt v533 c0_i32_344
  let c0_i32_345 : BitVec 32 := 0#32
  let v536 : BitVec 1 := Scalar.cmpi .slt v532 c0_i32_345
  let v537 : BitVec 1 := Scalar.xori v535 v536
  let c0_i32_343 : BitVec 32 := 0#32
  let v534 : BitVec 1 := Scalar.cmpi .ne v533 c0_i32_343
  let v538 : BitVec 1 := Scalar.andi v537 v534
  let v539 : BitVec 32 := Scalar.addi v533 v532
  let v540 : BitVec 32 := Scalar.select v538 v539 v533
  ![v540.toNat]
def k0_off8 (d0 : Dev nD) (c1_i32_339 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.subi v2 c1_i32_339
  let c16_i32_340 : BitVec 32 := 16#32
  let c0_i32_341 : BitVec 32 := 0#32
  let v531 : BitVec 1 := Scalar.cmpi .eq c16_i32_340 c0_i32_341
  let c1_i32_342 : BitVec 32 := 1#32
  let v532 : BitVec 32 := Scalar.select v531 c1_i32_342 c16_i32_340
  let v533 : BitVec 32 := Scalar.remsi v530 v532
  let c0_i32_344 : BitVec 32 := 0#32
  let v535 : BitVec 1 := Scalar.cmpi .slt v533 c0_i32_344
  let c0_i32_345 : BitVec 32 := 0#32
  let v536 : BitVec 1 := Scalar.cmpi .slt v532 c0_i32_345
  let v537 : BitVec 1 := Scalar.xori v535 v536
  let c0_i32_343 : BitVec 32 := 0#32
  let v534 : BitVec 1 := Scalar.cmpi .ne v533 c0_i32_343
  let v538 : BitVec 1 := Scalar.andi v537 v534
  let v539 : BitVec 32 := Scalar.addi v533 v532
  let v540 : BitVec 32 := Scalar.select v538 v539 v533
  let c0_i32_348 : BitVec 32 := 0#32
  let c0_i32_349 : BitVec 32 := 0#32
  ![v540.toNat, 0, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_552 : BitVec 32 := 32#32
  let v829 : BitVec 32 := Scalar.muli v2 c32_i32_552
  let c0_i32_555 : BitVec 32 := 0#32
  ![v829.toNat, 0]
def k0_dev31 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_545 : BitVec 32 := 1#32
  let v818 : BitVec 32 := Scalar.addi v2 c1_i32_545
  let c16_i32_546 : BitVec 32 := 16#32
  let c0_i32_547 : BitVec 32 := 0#32
  let v819 : BitVec 1 := Scalar.cmpi .eq c16_i32_546 c0_i32_547
  let c1_i32_548 : BitVec 32 := 1#32
  let v820 : BitVec 32 := Scalar.select v819 c1_i32_548 c16_i32_546
  let v821 : BitVec 32 := Scalar.remsi v818 v820
  let c0_i32_550 : BitVec 32 := 0#32
  let v823 : BitVec 1 := Scalar.cmpi .slt v821 c0_i32_550
  let c0_i32_551 : BitVec 32 := 0#32
  let v824 : BitVec 1 := Scalar.cmpi .slt v820 c0_i32_551
  let v825 : BitVec 1 := Scalar.xori v823 v824
  let c0_i32_549 : BitVec 32 := 0#32
  let v822 : BitVec 1 := Scalar.cmpi .ne v821 c0_i32_549
  let v826 : BitVec 1 := Scalar.andi v825 v822
  let v827 : BitVec 32 := Scalar.addi v821 v820
  let v828 : BitVec 32 := Scalar.select v826 v827 v821
  let c1_i32_553 : BitVec 32 := 1#32
  let v830 : BitVec 32 := Scalar.muli v828 c1_i32_553
  let v831 : BitVec 32 := Scalar.addi c0_i32_554 v830
  v831.toNat
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_556 : BitVec 32 := 2#32
  let v837 : BitVec 32 := Scalar.addi v2 c2_i32_556
  let c16_i32_557 : BitVec 32 := 16#32
  let c0_i32_558 : BitVec 32 := 0#32
  let v838 : BitVec 1 := Scalar.cmpi .eq c16_i32_557 c0_i32_558
  let c1_i32_559 : BitVec 32 := 1#32
  let v839 : BitVec 32 := Scalar.select v838 c1_i32_559 c16_i32_557
  let v840 : BitVec 32 := Scalar.remsi v837 v839
  let c0_i32_561 : BitVec 32 := 0#32
  let v842 : BitVec 1 := Scalar.cmpi .slt v840 c0_i32_561
  let c0_i32_562 : BitVec 32 := 0#32
  let v843 : BitVec 1 := Scalar.cmpi .slt v839 c0_i32_562
  let v844 : BitVec 1 := Scalar.xori v842 v843
  let c0_i32_560 : BitVec 32 := 0#32
  let v841 : BitVec 1 := Scalar.cmpi .ne v840 c0_i32_560
  let v845 : BitVec 1 := Scalar.andi v844 v841
  let v846 : BitVec 32 := Scalar.addi v840 v839
  let v847 : BitVec 32 := Scalar.select v845 v846 v840
  let c1_i32_564 : BitVec 32 := 1#32
  let v849 : BitVec 32 := Scalar.muli v847 c1_i32_564
  let v850 : BitVec 32 := Scalar.addi c0_i32_565 v849
  v850.toNat
def k0_dev33 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_567 : BitVec 32 := 3#32
  let v856 : BitVec 32 := Scalar.addi v2 c3_i32_567
  let c16_i32_568 : BitVec 32 := 16#32
  let c0_i32_569 : BitVec 32 := 0#32
  let v857 : BitVec 1 := Scalar.cmpi .eq c16_i32_568 c0_i32_569
  let c1_i32_570 : BitVec 32 := 1#32
  let v858 : BitVec 32 := Scalar.select v857 c1_i32_570 c16_i32_568
  let v859 : BitVec 32 := Scalar.remsi v856 v858
  let c0_i32_572 : BitVec 32 := 0#32
  let v861 : BitVec 1 := Scalar.cmpi .slt v859 c0_i32_572
  let c0_i32_573 : BitVec 32 := 0#32
  let v862 : BitVec 1 := Scalar.cmpi .slt v858 c0_i32_573
  let v863 : BitVec 1 := Scalar.xori v861 v862
  let c0_i32_571 : BitVec 32 := 0#32
  let v860 : BitVec 1 := Scalar.cmpi .ne v859 c0_i32_571
  let v864 : BitVec 1 := Scalar.andi v863 v860
  let v865 : BitVec 32 := Scalar.addi v859 v858
  let v866 : BitVec 32 := Scalar.select v864 v865 v859
  let c1_i32_575 : BitVec 32 := 1#32
  let v868 : BitVec 32 := Scalar.muli v866 c1_i32_575
  let v869 : BitVec 32 := Scalar.addi c0_i32_576 v868
  v869.toNat
def k0_dev34 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_578 : BitVec 32 := 4#32
  let v875 : BitVec 32 := Scalar.addi v2 c4_i32_578
  let c16_i32_579 : BitVec 32 := 16#32
  let c0_i32_580 : BitVec 32 := 0#32
  let v876 : BitVec 1 := Scalar.cmpi .eq c16_i32_579 c0_i32_580
  let c1_i32_581 : BitVec 32 := 1#32
  let v877 : BitVec 32 := Scalar.select v876 c1_i32_581 c16_i32_579
  let v878 : BitVec 32 := Scalar.remsi v875 v877
  let c0_i32_583 : BitVec 32 := 0#32
  let v880 : BitVec 1 := Scalar.cmpi .slt v878 c0_i32_583
  let c0_i32_584 : BitVec 32 := 0#32
  let v881 : BitVec 1 := Scalar.cmpi .slt v877 c0_i32_584
  let v882 : BitVec 1 := Scalar.xori v880 v881
  let c0_i32_582 : BitVec 32 := 0#32
  let v879 : BitVec 1 := Scalar.cmpi .ne v878 c0_i32_582
  let v883 : BitVec 1 := Scalar.andi v882 v879
  let v884 : BitVec 32 := Scalar.addi v878 v877
  let v885 : BitVec 32 := Scalar.select v883 v884 v878
  let c1_i32_586 : BitVec 32 := 1#32
  let v887 : BitVec 32 := Scalar.muli v885 c1_i32_586
  let v888 : BitVec 32 := Scalar.addi c0_i32_587 v887
  v888.toNat
def k0_dev35 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_589 : BitVec 32 := 5#32
  let v894 : BitVec 32 := Scalar.addi v2 c5_i32_589
  let c16_i32_590 : BitVec 32 := 16#32
  let c0_i32_591 : BitVec 32 := 0#32
  let v895 : BitVec 1 := Scalar.cmpi .eq c16_i32_590 c0_i32_591
  let c1_i32_592 : BitVec 32 := 1#32
  let v896 : BitVec 32 := Scalar.select v895 c1_i32_592 c16_i32_590
  let v897 : BitVec 32 := Scalar.remsi v894 v896
  let c0_i32_594 : BitVec 32 := 0#32
  let v899 : BitVec 1 := Scalar.cmpi .slt v897 c0_i32_594
  let c0_i32_595 : BitVec 32 := 0#32
  let v900 : BitVec 1 := Scalar.cmpi .slt v896 c0_i32_595
  let v901 : BitVec 1 := Scalar.xori v899 v900
  let c0_i32_593 : BitVec 32 := 0#32
  let v898 : BitVec 1 := Scalar.cmpi .ne v897 c0_i32_593
  let v902 : BitVec 1 := Scalar.andi v901 v898
  let v903 : BitVec 32 := Scalar.addi v897 v896
  let v904 : BitVec 32 := Scalar.select v902 v903 v897
  let c1_i32_597 : BitVec 32 := 1#32
  let v906 : BitVec 32 := Scalar.muli v904 c1_i32_597
  let v907 : BitVec 32 := Scalar.addi c0_i32_598 v906
  v907.toNat
def k0_dev36 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_600 : BitVec 32 := 6#32
  let v913 : BitVec 32 := Scalar.addi v2 c6_i32_600
  let c16_i32_601 : BitVec 32 := 16#32
  let c0_i32_602 : BitVec 32 := 0#32
  let v914 : BitVec 1 := Scalar.cmpi .eq c16_i32_601 c0_i32_602
  let c1_i32_603 : BitVec 32 := 1#32
  let v915 : BitVec 32 := Scalar.select v914 c1_i32_603 c16_i32_601
  let v916 : BitVec 32 := Scalar.remsi v913 v915
  let c0_i32_605 : BitVec 32 := 0#32
  let v918 : BitVec 1 := Scalar.cmpi .slt v916 c0_i32_605
  let c0_i32_606 : BitVec 32 := 0#32
  let v919 : BitVec 1 := Scalar.cmpi .slt v915 c0_i32_606
  let v920 : BitVec 1 := Scalar.xori v918 v919
  let c0_i32_604 : BitVec 32 := 0#32
  let v917 : BitVec 1 := Scalar.cmpi .ne v916 c0_i32_604
  let v921 : BitVec 1 := Scalar.andi v920 v917
  let v922 : BitVec 32 := Scalar.addi v916 v915
  let v923 : BitVec 32 := Scalar.select v921 v922 v916
  let c1_i32_608 : BitVec 32 := 1#32
  let v925 : BitVec 32 := Scalar.muli v923 c1_i32_608
  let v926 : BitVec 32 := Scalar.addi c0_i32_609 v925
  v926.toNat
def k0_dev37 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_611 : BitVec 32 := 7#32
  let v932 : BitVec 32 := Scalar.addi v2 c7_i32_611
  let c16_i32_612 : BitVec 32 := 16#32
  let c0_i32_613 : BitVec 32 := 0#32
  let v933 : BitVec 1 := Scalar.cmpi .eq c16_i32_612 c0_i32_613
  let c1_i32_614 : BitVec 32 := 1#32
  let v934 : BitVec 32 := Scalar.select v933 c1_i32_614 c16_i32_612
  let v935 : BitVec 32 := Scalar.remsi v932 v934
  let c0_i32_616 : BitVec 32 := 0#32
  let v937 : BitVec 1 := Scalar.cmpi .slt v935 c0_i32_616
  let c0_i32_617 : BitVec 32 := 0#32
  let v938 : BitVec 1 := Scalar.cmpi .slt v934 c0_i32_617
  let v939 : BitVec 1 := Scalar.xori v937 v938
  let c0_i32_615 : BitVec 32 := 0#32
  let v936 : BitVec 1 := Scalar.cmpi .ne v935 c0_i32_615
  let v940 : BitVec 1 := Scalar.andi v939 v936
  let v941 : BitVec 32 := Scalar.addi v935 v934
  let v942 : BitVec 32 := Scalar.select v940 v941 v935
  let c1_i32_619 : BitVec 32 := 1#32
  let v944 : BitVec 32 := Scalar.muli v942 c1_i32_619
  let v945 : BitVec 32 := Scalar.addi c0_i32_620 v944
  v945.toNat
def k0_dev38 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_622 : BitVec 32 := 8#32
  let v951 : BitVec 32 := Scalar.addi v2 c8_i32_622
  let c16_i32_623 : BitVec 32 := 16#32
  let c0_i32_624 : BitVec 32 := 0#32
  let v952 : BitVec 1 := Scalar.cmpi .eq c16_i32_623 c0_i32_624
  let c1_i32_625 : BitVec 32 := 1#32
  let v953 : BitVec 32 := Scalar.select v952 c1_i32_625 c16_i32_623
  let v954 : BitVec 32 := Scalar.remsi v951 v953
  let c0_i32_627 : BitVec 32 := 0#32
  let v956 : BitVec 1 := Scalar.cmpi .slt v954 c0_i32_627
  let c0_i32_628 : BitVec 32 := 0#32
  let v957 : BitVec 1 := Scalar.cmpi .slt v953 c0_i32_628
  let v958 : BitVec 1 := Scalar.xori v956 v957
  let c0_i32_626 : BitVec 32 := 0#32
  let v955 : BitVec 1 := Scalar.cmpi .ne v954 c0_i32_626
  let v959 : BitVec 1 := Scalar.andi v958 v955
  let v960 : BitVec 32 := Scalar.addi v954 v953
  let v961 : BitVec 32 := Scalar.select v959 v960 v954
  let c1_i32_630 : BitVec 32 := 1#32
  let v963 : BitVec 32 := Scalar.muli v961 c1_i32_630
  let v964 : BitVec 32 := Scalar.addi c0_i32_631 v963
  v964.toNat
def k0_dev39 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_633 : BitVec 32 := 9#32
  let v970 : BitVec 32 := Scalar.addi v2 c9_i32_633
  let c16_i32_634 : BitVec 32 := 16#32
  let c0_i32_635 : BitVec 32 := 0#32
  let v971 : BitVec 1 := Scalar.cmpi .eq c16_i32_634 c0_i32_635
  let c1_i32_636 : BitVec 32 := 1#32
  let v972 : BitVec 32 := Scalar.select v971 c1_i32_636 c16_i32_634
  let v973 : BitVec 32 := Scalar.remsi v970 v972
  let c0_i32_638 : BitVec 32 := 0#32
  let v975 : BitVec 1 := Scalar.cmpi .slt v973 c0_i32_638
  let c0_i32_639 : BitVec 32 := 0#32
  let v976 : BitVec 1 := Scalar.cmpi .slt v972 c0_i32_639
  let v977 : BitVec 1 := Scalar.xori v975 v976
  let c0_i32_637 : BitVec 32 := 0#32
  let v974 : BitVec 1 := Scalar.cmpi .ne v973 c0_i32_637
  let v978 : BitVec 1 := Scalar.andi v977 v974
  let v979 : BitVec 32 := Scalar.addi v973 v972
  let v980 : BitVec 32 := Scalar.select v978 v979 v973
  let c1_i32_641 : BitVec 32 := 1#32
  let v982 : BitVec 32 := Scalar.muli v980 c1_i32_641
  let v983 : BitVec 32 := Scalar.addi c0_i32_642 v982
  v983.toNat
def k0_dev40 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_644 : BitVec 32 := 10#32
  let v989 : BitVec 32 := Scalar.addi v2 c10_i32_644
  let c16_i32_645 : BitVec 32 := 16#32
  let c0_i32_646 : BitVec 32 := 0#32
  let v990 : BitVec 1 := Scalar.cmpi .eq c16_i32_645 c0_i32_646
  let c1_i32_647 : BitVec 32 := 1#32
  let v991 : BitVec 32 := Scalar.select v990 c1_i32_647 c16_i32_645
  let v992 : BitVec 32 := Scalar.remsi v989 v991
  let c0_i32_649 : BitVec 32 := 0#32
  let v994 : BitVec 1 := Scalar.cmpi .slt v992 c0_i32_649
  let c0_i32_650 : BitVec 32 := 0#32
  let v995 : BitVec 1 := Scalar.cmpi .slt v991 c0_i32_650
  let v996 : BitVec 1 := Scalar.xori v994 v995
  let c0_i32_648 : BitVec 32 := 0#32
  let v993 : BitVec 1 := Scalar.cmpi .ne v992 c0_i32_648
  let v997 : BitVec 1 := Scalar.andi v996 v993
  let v998 : BitVec 32 := Scalar.addi v992 v991
  let v999 : BitVec 32 := Scalar.select v997 v998 v992
  let c1_i32_652 : BitVec 32 := 1#32
  let v1001 : BitVec 32 := Scalar.muli v999 c1_i32_652
  let v1002 : BitVec 32 := Scalar.addi c0_i32_653 v1001
  v1002.toNat
def k0_dev41 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_655 : BitVec 32 := 11#32
  let v1008 : BitVec 32 := Scalar.addi v2 c11_i32_655
  let c16_i32_656 : BitVec 32 := 16#32
  let c0_i32_657 : BitVec 32 := 0#32
  let v1009 : BitVec 1 := Scalar.cmpi .eq c16_i32_656 c0_i32_657
  let c1_i32_658 : BitVec 32 := 1#32
  let v1010 : BitVec 32 := Scalar.select v1009 c1_i32_658 c16_i32_656
  let v1011 : BitVec 32 := Scalar.remsi v1008 v1010
  let c0_i32_660 : BitVec 32 := 0#32
  let v1013 : BitVec 1 := Scalar.cmpi .slt v1011 c0_i32_660
  let c0_i32_661 : BitVec 32 := 0#32
  let v1014 : BitVec 1 := Scalar.cmpi .slt v1010 c0_i32_661
  let v1015 : BitVec 1 := Scalar.xori v1013 v1014
  let c0_i32_659 : BitVec 32 := 0#32
  let v1012 : BitVec 1 := Scalar.cmpi .ne v1011 c0_i32_659
  let v1016 : BitVec 1 := Scalar.andi v1015 v1012
  let v1017 : BitVec 32 := Scalar.addi v1011 v1010
  let v1018 : BitVec 32 := Scalar.select v1016 v1017 v1011
  let c1_i32_663 : BitVec 32 := 1#32
  let v1020 : BitVec 32 := Scalar.muli v1018 c1_i32_663
  let v1021 : BitVec 32 := Scalar.addi c0_i32_664 v1020
  v1021.toNat
def k0_dev42 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_666 : BitVec 32 := 12#32
  let v1027 : BitVec 32 := Scalar.addi v2 c12_i32_666
  let c16_i32_667 : BitVec 32 := 16#32
  let c0_i32_668 : BitVec 32 := 0#32
  let v1028 : BitVec 1 := Scalar.cmpi .eq c16_i32_667 c0_i32_668
  let c1_i32_669 : BitVec 32 := 1#32
  let v1029 : BitVec 32 := Scalar.select v1028 c1_i32_669 c16_i32_667
  let v1030 : BitVec 32 := Scalar.remsi v1027 v1029
  let c0_i32_671 : BitVec 32 := 0#32
  let v1032 : BitVec 1 := Scalar.cmpi .slt v1030 c0_i32_671
  let c0_i32_672 : BitVec 32 := 0#32
  let v1033 : BitVec 1 := Scalar.cmpi .slt v1029 c0_i32_672
  let v1034 : BitVec 1 := Scalar.xori v1032 v1033
  let c0_i32_670 : BitVec 32 := 0#32
  let v1031 : BitVec 1 := Scalar.cmpi .ne v1030 c0_i32_670
  let v1035 : BitVec 1 := Scalar.andi v1034 v1031
  let v1036 : BitVec 32 := Scalar.addi v1030 v1029
  let v1037 : BitVec 32 := Scalar.select v1035 v1036 v1030
  let c1_i32_674 : BitVec 32 := 1#32
  let v1039 : BitVec 32 := Scalar.muli v1037 c1_i32_674
  let v1040 : BitVec 32 := Scalar.addi c0_i32_675 v1039
  v1040.toNat
def k0_dev43 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_677 : BitVec 32 := 13#32
  let v1046 : BitVec 32 := Scalar.addi v2 c13_i32_677
  let c16_i32_678 : BitVec 32 := 16#32
  let c0_i32_679 : BitVec 32 := 0#32
  let v1047 : BitVec 1 := Scalar.cmpi .eq c16_i32_678 c0_i32_679
  let c1_i32_680 : BitVec 32 := 1#32
  let v1048 : BitVec 32 := Scalar.select v1047 c1_i32_680 c16_i32_678
  let v1049 : BitVec 32 := Scalar.remsi v1046 v1048
  let c0_i32_682 : BitVec 32 := 0#32
  let v1051 : BitVec 1 := Scalar.cmpi .slt v1049 c0_i32_682
  let c0_i32_683 : BitVec 32 := 0#32
  let v1052 : BitVec 1 := Scalar.cmpi .slt v1048 c0_i32_683
  let v1053 : BitVec 1 := Scalar.xori v1051 v1052
  let c0_i32_681 : BitVec 32 := 0#32
  let v1050 : BitVec 1 := Scalar.cmpi .ne v1049 c0_i32_681
  let v1054 : BitVec 1 := Scalar.andi v1053 v1050
  let v1055 : BitVec 32 := Scalar.addi v1049 v1048
  let v1056 : BitVec 32 := Scalar.select v1054 v1055 v1049
  let c1_i32_685 : BitVec 32 := 1#32
  let v1058 : BitVec 32 := Scalar.muli v1056 c1_i32_685
  let v1059 : BitVec 32 := Scalar.addi c0_i32_686 v1058
  v1059.toNat
def k0_dev44 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_688 : BitVec 32 := 14#32
  let v1065 : BitVec 32 := Scalar.addi v2 c14_i32_688
  let c16_i32_689 : BitVec 32 := 16#32
  let c0_i32_690 : BitVec 32 := 0#32
  let v1066 : BitVec 1 := Scalar.cmpi .eq c16_i32_689 c0_i32_690
  let c1_i32_691 : BitVec 32 := 1#32
  let v1067 : BitVec 32 := Scalar.select v1066 c1_i32_691 c16_i32_689
  let v1068 : BitVec 32 := Scalar.remsi v1065 v1067
  let c0_i32_693 : BitVec 32 := 0#32
  let v1070 : BitVec 1 := Scalar.cmpi .slt v1068 c0_i32_693
  let c0_i32_694 : BitVec 32 := 0#32
  let v1071 : BitVec 1 := Scalar.cmpi .slt v1067 c0_i32_694
  let v1072 : BitVec 1 := Scalar.xori v1070 v1071
  let c0_i32_692 : BitVec 32 := 0#32
  let v1069 : BitVec 1 := Scalar.cmpi .ne v1068 c0_i32_692
  let v1073 : BitVec 1 := Scalar.andi v1072 v1069
  let v1074 : BitVec 32 := Scalar.addi v1068 v1067
  let v1075 : BitVec 32 := Scalar.select v1073 v1074 v1068
  let c1_i32_696 : BitVec 32 := 1#32
  let v1077 : BitVec 32 := Scalar.muli v1075 c1_i32_696
  let v1078 : BitVec 32 := Scalar.addi c0_i32_697 v1077
  v1078.toNat
def k0_dev45 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_699 : BitVec 32 := 15#32
  let v1084 : BitVec 32 := Scalar.addi v2 c15_i32_699
  let c16_i32_700 : BitVec 32 := 16#32
  let c0_i32_701 : BitVec 32 := 0#32
  let v1085 : BitVec 1 := Scalar.cmpi .eq c16_i32_700 c0_i32_701
  let c1_i32_702 : BitVec 32 := 1#32
  let v1086 : BitVec 32 := Scalar.select v1085 c1_i32_702 c16_i32_700
  let v1087 : BitVec 32 := Scalar.remsi v1084 v1086
  let c0_i32_704 : BitVec 32 := 0#32
  let v1089 : BitVec 1 := Scalar.cmpi .slt v1087 c0_i32_704
  let c0_i32_705 : BitVec 32 := 0#32
  let v1090 : BitVec 1 := Scalar.cmpi .slt v1086 c0_i32_705
  let v1091 : BitVec 1 := Scalar.xori v1089 v1090
  let c0_i32_703 : BitVec 32 := 0#32
  let v1088 : BitVec 1 := Scalar.cmpi .ne v1087 c0_i32_703
  let v1092 : BitVec 1 := Scalar.andi v1091 v1088
  let v1093 : BitVec 32 := Scalar.addi v1087 v1086
  let v1094 : BitVec 32 := Scalar.select v1092 v1093 v1087
  let c1_i32_707 : BitVec 32 := 1#32
  let v1096 : BitVec 32 := Scalar.muli v1094 c1_i32_707
  let v1097 : BitVec 32 := Scalar.addi c0_i32_708 v1096
  v1097.toNat
def k0_off10 (d0 : Dev nD) (c1_i32_710 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1103 : BitVec 32 := Scalar.subi v2 c1_i32_710
  let c16_i32_711 : BitVec 32 := 16#32
  let c0_i32_712 : BitVec 32 := 0#32
  let v1104 : BitVec 1 := Scalar.cmpi .eq c16_i32_711 c0_i32_712
  let c1_i32_713 : BitVec 32 := 1#32
  let v1105 : BitVec 32 := Scalar.select v1104 c1_i32_713 c16_i32_711
  let v1106 : BitVec 32 := Scalar.remsi v1103 v1105
  let c0_i32_715 : BitVec 32 := 0#32
  let v1108 : BitVec 1 := Scalar.cmpi .slt v1106 c0_i32_715
  let c0_i32_716 : BitVec 32 := 0#32
  let v1109 : BitVec 1 := Scalar.cmpi .slt v1105 c0_i32_716
  let v1110 : BitVec 1 := Scalar.xori v1108 v1109
  let c0_i32_714 : BitVec 32 := 0#32
  let v1107 : BitVec 1 := Scalar.cmpi .ne v1106 c0_i32_714
  let v1111 : BitVec 1 := Scalar.andi v1110 v1107
  let v1112 : BitVec 32 := Scalar.addi v1106 v1105
  let v1113 : BitVec 32 := Scalar.select v1111 v1112 v1106
  let c32_i32_717 : BitVec 32 := 32#32
  let v1114 : BitVec 32 := Scalar.muli v1113 c32_i32_717
  let c0_i32_720 : BitVec 32 := 0#32
  ![v1114.toNat, 0]
def k0_off11 (d0 : Dev nD) (c1_i32_710 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1103 : BitVec 32 := Scalar.subi v2 c1_i32_710
  let c16_i32_711 : BitVec 32 := 16#32
  let c0_i32_712 : BitVec 32 := 0#32
  let v1104 : BitVec 1 := Scalar.cmpi .eq c16_i32_711 c0_i32_712
  let c1_i32_713 : BitVec 32 := 1#32
  let v1105 : BitVec 32 := Scalar.select v1104 c1_i32_713 c16_i32_711
  let v1106 : BitVec 32 := Scalar.remsi v1103 v1105
  let c0_i32_715 : BitVec 32 := 0#32
  let v1108 : BitVec 1 := Scalar.cmpi .slt v1106 c0_i32_715
  let c0_i32_716 : BitVec 32 := 0#32
  let v1109 : BitVec 1 := Scalar.cmpi .slt v1105 c0_i32_716
  let v1110 : BitVec 1 := Scalar.xori v1108 v1109
  let c0_i32_714 : BitVec 32 := 0#32
  let v1107 : BitVec 1 := Scalar.cmpi .ne v1106 c0_i32_714
  let v1111 : BitVec 1 := Scalar.andi v1110 v1107
  let v1112 : BitVec 32 := Scalar.addi v1106 v1105
  let v1113 : BitVec 32 := Scalar.select v1111 v1112 v1106
  let c32_i32_721 : BitVec 32 := 32#32
  let v1120 : BitVec 32 := Scalar.muli v1113 c32_i32_721
  let v1121 : Index := Scalar.indexCast v1120
  let c0_722 : Index := 0#32
  ![v1121.toNat, 0]
def k0_off12 (d0 : Dev nD) (c1_i32_935 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1463 : BitVec 32 := Scalar.addi v2 c1_i32_935
  let c16_i32_936 : BitVec 32 := 16#32
  let c0_i32_937 : BitVec 32 := 0#32
  let v1464 : BitVec 1 := Scalar.cmpi .eq c16_i32_936 c0_i32_937
  let c1_i32_938 : BitVec 32 := 1#32
  let v1465 : BitVec 32 := Scalar.select v1464 c1_i32_938 c16_i32_936
  let v1466 : BitVec 32 := Scalar.remsi v1463 v1465
  let c0_i32_940 : BitVec 32 := 0#32
  let v1468 : BitVec 1 := Scalar.cmpi .slt v1466 c0_i32_940
  let c0_i32_941 : BitVec 32 := 0#32
  let v1469 : BitVec 1 := Scalar.cmpi .slt v1465 c0_i32_941
  let v1470 : BitVec 1 := Scalar.xori v1468 v1469
  let c0_i32_939 : BitVec 32 := 0#32
  let v1467 : BitVec 1 := Scalar.cmpi .ne v1466 c0_i32_939
  let v1471 : BitVec 1 := Scalar.andi v1470 v1467
  let v1472 : BitVec 32 := Scalar.addi v1466 v1465
  let v1473 : BitVec 32 := Scalar.select v1471 v1472 v1466
  let c0_i32_945 : BitVec 32 := 0#32
  let c0_i32_946 : BitVec 32 := 0#32
  ![v1473.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x512, .bf16⟩
  | .hbm, ⟨2, _⟩ => ⟨S512x4096, .f32⟩
  | .hbm, ⟨3, _⟩ => ⟨S4096x512, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Program.lean ====
/-
# The kernel as loops

The printed kernel unrolls its loops over the fifteen peers. This module names the views, the semaphores and the devices of one
turn of each loop, writes the kernel as those loops over the list of turns (`prog`), and states that the printed kernel
is that program (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.ReduceGather

open Cert.KernelIdeal Cert.KernelIdeal.Gen

open Idealize.ShloMosaic
open Idealize.ShloMosaic.TcCoe
open Idealize.SL Idealize.SL.Sem

variable {F : FTy → Type} [FloatOps F]

/-! ## Buffers -/

/-- The device's block of `A`, staged. -/
abbrev aM : Memref sig .tc .vmem S512x256 .bf16 := Memref.whole cc0_stg0_0
/-- The device's block of `B`, staged. -/
abbrev bM : Memref sig .tc .vmem S256x512 .bf16 := Memref.whole cc0_stg1_0
/-- The result, staged. -/
abbrev oM : Memref sig .tc .vmem S512x512 .f32 := Memref.whole cc0_stg2_0
/-- The device's partial product. -/
abbrev pM : Memref sig .tc .vmem S512x512 .bf16 := Memref.whole cc0_scratch0
/-- The sixteen partial chunks the device reduces. -/
abbrev gM : Memref sig .tc .vmem S16x32x512 .bf16 := Memref.whole cc0_scratch1
/-- The device's reduced chunk. -/
abbrev hM : Memref sig .tc .vmem S32x512 .bf16 := Memref.whole cc0_scratch2
/-- The gathered chunks. -/
abbrev xM : Memref sig .tc .vmem S512x512 .bf16 := Memref.whole cc0_scratch3

/-- The runtime's barrier semaphore of collective id 0. -/
abbrev barS : Sem sig := (SemArray.scalar (sig.barrier 0 rfl) : Sems sig S_).sem

/-! ## One turn's word, devices, views and semaphores -/

/-- Turn `r` is at distance `1 + r`. -/
abbrev wd (r : Fin 15) : BitVec 32 := BitVec.ofNat 32 (1 + r.val)

/-- The fifteen turns, in program order. -/
abbrev turns : List (Fin 15) := [0, 1, 2, 3, 4, 5, 6, 7, 8, 9, 10, 11, 12, 13, 14]

/-- The device the entry barrier's turn `r` signals. -/
def devB (c : Dev nD) : Fin 15 → Dev nD := ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The device the reduction's turn `r` sends to. -/
def dev1 (c : Dev nD) : Fin 15 → Dev nD := ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
/-- The device the gather's turn `r` sends to. -/
def dev2 (c : Dev nD) : Fin 15 → Dev nD := ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]

/-- The semaphore of an array at the turn's forward index. -/
abbrev semF (s : DmaSems sig S16) (c : Dev nD) (r : Fin 15) : DmaSem sig :=
  ((s.slice (Rect.unit (s := S16) (k0_off1 c (wd r)) S1.size (k0_off1_inb c r))).squeeze S_ squeezes_S1_S_).sem
/-- The semaphore of an array at the device's own index. -/
abbrev semO (s : DmaSems sig S16) (c : Dev nD) : DmaSem sig :=
  ((s.slice (Rect.unit (s := S16) (k0_off2 c) S1.size (k0_off2_inb c))).squeeze S_ squeezes_S1_S_).sem
/-- The semaphore of an array at the turn's backward index. -/
abbrev semB (s : DmaSems sig S16) (c : Dev nD) (r : Fin 15) : DmaSem sig :=
  ((s.slice (Rect.unit (s := S16) (k0_off7 c (wd r)) S1.size (k0_off7_inb c r))).squeeze S_ squeezes_S1_S_).sem

/-- Rows of the partial product at the turn's forward index. -/
abbrev pF (c : Dev nD) (r : Fin 15) : Memref sig .tc .vmem S32x512 .bf16 :=
  pM.slice (Rect.unit (s := S512x512) (k0_off4 c (wd r)) S32x512.size (k0_off4_inb c r)) (fun _ => rfl)
/-- Rows of the gather buffer at the turn's forward index. -/
abbrev xF (c : Dev nD) (r : Fin 15) : Memref sig .tc .vmem S32x512 .bf16 :=
  xM.slice (Rect.unit (s := S512x512) (k0_off4 c (wd r)) S32x512.size (k0_off4_inb c r)) (fun _ => rfl)
/-- The first rows of the partial product: the shape a receive wait names. -/
abbrev pZ : Memref sig .tc .vmem S32x512 .bf16 :=
  pM.slice (Rect.unit (s := S512x512) ![0, 0] S32x512.size inb_S512x512_S32x512_0_0) (fun _ => rfl)
/-- The device's own slot of the reduction buffer. -/
abbrev gO (c : Dev nD) : Memref sig .tc .vmem S32x512 .bf16 :=
  (gM.slice (Rect.unit (s := S16x32x512) (k0_off3 c) S1x32x512.size (k0_off3_inb c)) (fun _ => rfl)).squeeze S32x512 squeezes_S1x32x512_S32x512
/-- The slot of the reduction buffer at the turn's backward index. -/
abbrev gB (c : Dev nD) (r : Fin 15) : Memref sig .tc .vmem S32x512 .bf16 :=
  (gM.slice (Rect.unit (s := S16x32x512) (k0_off8 c (wd r)) S1x32x512.size (k0_off8_inb c r)) (fun _ => rfl)).squeeze S32x512 squeezes_S1x32x512_S32x512
/-- The slot of the reduction buffer at the turn's forward index. -/
abbrev gF (c : Dev nD) (r : Fin 15) : Memref sig .tc .vmem S32x512 .bf16 :=
  (gM.slice (Rect.unit (s := S16x32x512) (k0_off12 c (wd r)) S1x32x512.size (k0_off12_inb c r)) (fun _ => rfl)).squeeze S32x512 squeezes_S1x32x512_S32x512
/-- The device's own rows of the gather buffer. -/
abbrev xO (c : Dev nD) : Memref sig .tc .vmem S32x512 .bf16 :=
  xM.slice (Rect.unit (s := S512x512) (k0_off9 c) S32x512.size (k0_off9_inb c)) (fun _ => rfl)
/-- Rows of the gather buffer at the turn's backward index. -/
abbrev xB (c : Dev nD) (r : Fin 15) : Memref sig .tc .vmem S32x512 .bf16 :=
  xM.slice (Rect.unit (s := S512x512) (k0_off10 c (wd r)) S32x512.size (k0_off10_inb c r)) (fun _ => rfl)

/-- The rows at the turn's backward index, as a rectangle. -/
abbrev rB (c : Dev nD) (r : Fin 15) : Rect S512x512 := Rect.unit (s := S512x512) (k0_off11 c (wd r)) S32x512.size (k0_off11_inb c r)
/-- The device's own rows, as a rectangle. -/
abbrev rO (c : Dev nD) : Rect S512x512 := Rect.unit (s := S512x512) (k0_off5 c) S32x512.size (k0_off5_inb c)
/-- The device's own slot, as a rectangle. -/
abbrev rS (c : Dev nD) : Rect S16x32x512 := Rect.unit (s := S16x32x512) (k0_off6 c) S1x32x512.size (k0_off6_inb c)
/-- Whole buffers, as rectangles. -/
abbrev rA : Rect S512x256 := Rect.unit (s := S512x256) ![0, 0] S512x256.size inb_S512x256_S512x256_0_0
abbrev rBb : Rect S256x512 := Rect.unit (s := S256x512) ![0, 0] S256x512.size inb_S256x512_S256x512_0_0
abbrev rP : Rect S512x512 := Rect.unit (s := S512x512) ![0, 0] S512x512.size inb_S512x512_S512x512_0_0
abbrev rG : Rect S16x32x512 := Rect.unit (s := S16x32x512) ![0, 0, 0] S16x32x512.size inb_S16x32x512_S16x32x512_0_0_0
abbrev rH : Rect S32x512 := Rect.unit (s := S32x512) ![0, 0] S32x512.size inb_S32x512_S32x512_0_0

/-! ## One turn of each loop, and the loops -/

/-- A kernel program of this certificate. -/
abbrev KProg (F : FTy → Type) : Type 1 := Prog (TpuEff nD τ sig (Elt F) Λ₀ .tc) PUnit

/-- A turn of the entry barrier: one unit to the peer's barrier semaphore. -/
def opBar (c : Dev nD) (r : Fin 15) (k : KProg F) : KProg F :=
  .op (.semSignal (Dev.tc (devB c r)) barS (1#32).toNat) fun _ => k
/-- A turn of the reduction's sends: rows of the partial product into the peer's slot of this device. -/
def opSend1 (c : Dev nD) (r : Fin 15) (k : KProg F) : KProg F :=
  .op (.enqueueDma (pF c r) (.remote (Dev.tc (dev1 c r)) (gO c) (.dma (semF cc0_scratch4 c r))) (.dma (semO cc0_scratch5 c))
    ((Memref.isWhole_whole cc0_scratch0).wordExact_slice rfl _ (k0_off4_wordsbf16 c r))
    (((Memref.isWhole_whole cc0_scratch1).wordExact_slice rfl _ (k0_off3_wordsbf16 c)).reshape _ _) ⟨⟨rfl, Or.inl rfl⟩, trivial⟩) fun _ => k
/-- A turn of the reduction's receive waits. -/
def opRecv1 (c : Dev nD) (r : Fin 15) (k : KProg F) : KProg F :=
  .op (.waitDma2 (semB cc0_scratch5 c r) pZ (gB c r)
    ((Memref.isWhole_whole cc0_scratch0).wordExact_slice rfl _ wordsbf16_S512x512_S32x512_0_0)
    (((Memref.isWhole_whole cc0_scratch1).wordExact_slice rfl _ (k0_off8_wordsbf16 c r)).reshape _ _)) fun _ => k
/-- A turn of the gather's sends: the reduced chunk into the peer's rows of this device. -/
def opSend2 (c : Dev nD) (r : Fin 15) (k : KProg F) : KProg F :=
  .op (.enqueueDma hM (.remote (Dev.tc (dev2 c r)) (xO c) (.dma (semF cc0_scratch6 c r))) (.dma (semO cc0_scratch7 c))
    (Memref.isWhole_whole cc0_scratch2).wordExact
    ((Memref.isWhole_whole cc0_scratch3).wordExact_slice rfl _ (k0_off9_wordsbf16 c)) ⟨⟨rfl, Or.inl rfl⟩, trivial⟩) fun _ => k
/-- A turn of the gather's receives: the wait, then the rows widened into the result. -/
def opRecv2 (c : Dev nD) (r : Fin 15) (k : KProg F) : KProg F :=
  .op (.waitDma2 (semB cc0_scratch7 c r) hM (xB c r) (Memref.isWhole_whole cc0_scratch2).wordExact
    ((Memref.isWhole_whole cc0_scratch3).wordExact_slice rfl _ (k0_off10_wordsbf16 c r))) fun _ =>
  .op (.load xM (rB c r).toLoadRect (View.loadsAt_vmem h_S32x512)) fun v =>
  .op (.load oM (rB c r).toLoadRect (View.loadsAt_vmem h_S32x512)) fun _ =>
  .op (.store oM (rB c r) (k0_pay5 v) Finset.univ (View.stores_vmem_bits_univ h_S32x512 rfl) (.inl rfl)) fun _ => k
/-- A turn of the send waits, one of each phase. -/
def opDone (c : Dev nD) (r : Fin 15) (k : KProg F) : KProg F :=
  .op (.waitDma2 (semF cc0_scratch4 c r) (gF c r) (pF c r)
    (((Memref.isWhole_whole cc0_scratch1).wordExact_slice rfl _ (k0_off12_wordsbf16 c r)).reshape _ _)
    ((Memref.isWhole_whole cc0_scratch0).wordExact_slice rfl _ (k0_off4_wordsbf16 c r))) fun _ =>
  .op (.waitDma2 (semF cc0_scratch6 c r) (xF c r) hM
    ((Memref.isWhole_whole cc0_scratch3).wordExact_slice rfl _ (k0_off4_wordsbf16 c r)) (Memref.isWhole_whole cc0_scratch2).wordExact) fun _ => k

/-- A loop over the turns `l`, then `k`. -/
def loop (op : Fin 15 → KProg F → KProg F) (k : KProg F) (l : List (Fin 15)) : KProg F := l.foldr op k

/-- From the gather's sends to the end. -/
def prog4 (c : Dev nD) : KProg F :=
  loop (opSend2 c) (loop (opRecv2 c) (loop (opDone c) (.ret ⟨⟩) turns) turns) turns

/-- The reduction of the gathered slots, its chunk and its rows of the result, then the rest. -/
def prog3 (c : Dev nD) : KProg F :=
  .op (.load gM rG.toLoadRect (View.loadsAt_vmem h_S16x32x512)) fun v =>
  .op (.load hM rH.toLoadRect (View.loadsAt_vmem h_S32x512)) fun _ =>
  .op (.store hM rH (k0_pay4 v) Finset.univ (View.stores_vmem h_S32x512 ((Memref.isWhole_whole cc0_scratch2).storeExact_slice rfl _ packedbf16_S32x512_S32x512_0_0) (fun _ => rfl)) (.inl rfl)) fun _ =>
  .op (.load oM (rO c).toLoadRect (View.loadsAt_vmem h_S32x512)) fun _ =>
  .op (.store oM (rO c) (k0_pay3 v) Finset.univ (View.stores_vmem_bits_univ h_S32x512 rfl) (.inl rfl)) fun _ =>
  prog4 c

/-- The device's own rows into its own slot, the receive waits, then the rest. -/
def prog2 (c : Dev nD) : KProg F :=
  .op (.load pM (rO c).toLoadRect (View.loadsAt_vmem h_S32x512)) fun v =>
  .op (.load gM (rS c).toLoadRect (View.loadsAt_vmem h_S1x32x512)) fun _ =>
  .op (.store gM (rS c) (k0_pay2 v) Finset.univ (View.stores_vmem h_S1x32x512 ((Memref.isWhole_whole cc0_scratch1).storeExact_slice rfl _ (k0_off6_packedbf16 c)) (fun _ => rfl)) (.inl rfl)) fun _ =>
  loop (opRecv1 c) (prog3 c) turns

/-- The product, the barrier's wait, the reduction's sends, then the rest. -/
def prog1 (c : Dev nD) : KProg F :=
  .op (.load aM rA.toLoadRect (View.loadsAt_vmem h_S512x256)) fun v =>
  .op (.load bM rBb.toLoadRect (View.loadsAt_vmem h_S256x512)) fun w =>
  .op (.load pM rP.toLoadRect (View.loadsAt_vmem h_S512x512)) fun _ =>
  .op (.store pM rP (k0_pay1 v w) Finset.univ (View.stores_vmem h_S512x512 ((Memref.isWhole_whole cc0_scratch0).storeExact_slice rfl _ packedbf16_S512x512_S512x512_0_0) (fun _ => rfl)) (.inl rfl)) fun _ =>
  .op (.semWait barS (15#32).toNat) fun _ =>
  loop (opSend1 c) (prog2 c) turns

/-- The kernel on device `c`, after it has read its own index. -/
def prog (c : Dev nD) : KProg F := loop (opBar c) (prog1 c) turns

set_option maxRecDepth 1000000 in
set_option maxHeartbeats 4000000 in
/-- The printed kernel, at the buffers the region calls it with, reads the device's index and runs `prog`. -/
theorem body_eq (t : Fin cfg0.N) :
    (bodyAt0 t : KProg F) = .op .deviceId fun d => prog d := by
  chain_rfl

end Cert.ReduceGather

end
-- ==== Proof.Geometry.lean ====
/-
# Where the views sit

The offsets the kernel computes, in closed form: at turn `r` the forward index of device `c` is `c + 1 + r` and its backward
index `c - 1 - r`, both modulo the sixteen devices. From these, the semaphores' numbers, and the element sets and the
placements of the views: blocks of thirty-two rows of a `512 × 512` buffer, and slots of the `16 × 32 × 512` one.
-/
module

public import proofs.«01_k».proof.Proof.Program
public import Idealize.ShloMosaic.Lib.ValueLayout
public import Idealize.ShloMosaic.Lib.Pipeline.ValueKit.Geometry

@[expose] public section

noncomputable section

namespace Cert.ReduceGather

open Cert.KernelIdeal Cert.KernelIdeal.Gen

open Idealize.ShloMosaic
open Idealize.ShloMosaic.TcCoe
open Idealize.ShloMosaic.ValueIdx Idealize.SL Idealize.SL.Sem

variable {F : FTy → Type} [FloatOps F]

/-! ## Indices -/

/-- The device at distance `1 + r` after `c`. -/
def fw (c : Dev nD) (r : Fin 15) : Dev nD := ⟨(c.val + 1 + r.val) % 16, Nat.mod_lt _ (by decide)⟩
/-- The device at distance `1 + r` before `c`. -/
def bw (c : Dev nD) (r : Fin 15) : Dev nD := ⟨(c.val + 15 - r.val) % 16, Nat.mod_lt _ (by decide)⟩
/-- The turn at which `c` reaches `j` going forward. -/
def turnF (c j : Dev nD) : Fin 15 := ⟨((j.val + 31 - c.val) % 16) % 15, Nat.mod_lt _ (by decide)⟩

theorem fw_ne (c : Dev nD) (r : Fin 15) : fw c r ≠ c := by revert c r; decide +kernel
theorem bw_ne (c : Dev nD) (r : Fin 15) : bw c r ≠ c := by revert c r; decide +kernel
theorem turnF_fw (c : Dev nD) (r : Fin 15) : turnF c (fw c r) = r := by revert c r; decide +kernel
theorem fw_turnF (c j : Dev nD) (h : j ≠ c) : fw c (turnF c j) = j := by revert c j; decide +kernel
theorem fw_injective (c : Dev nD) : Function.Injective (fw c) := fun r s h => by
  rw [← turnF_fw c r, ← turnF_fw c s, h]
theorem bw_injective (c : Dev nD) : Function.Injective (bw c) := by
  have h : ∀ (c : Dev nD) (r s : Fin 15), bw c r = bw c s → r = s := by decide +kernel
  exact fun r s => h c r s
theorem exists_bw (c j : Dev nD) (h : j ≠ c) : ∃ r, bw c r = j := by revert c j; decide +kernel

theorem devB_eq (c : Dev nD) (r : Fin 15) : devB c r = fw c r := by revert c r; decide +kernel
theorem dev1_eq (c : Dev nD) (r : Fin 15) : dev1 c r = fw c r := by revert c r; decide +kernel
theorem dev2_eq (c : Dev nD) (r : Fin 15) : dev2 c r = fw c r := by revert c r; decide +kernel

theorem off4_eq (c : Dev nD) (r : Fin 15) : k0_off4 c (wd r) = ![32 * (fw c r).val, 0] := by revert c r; decide +kernel
theorem off8_eq (c : Dev nD) (r : Fin 15) : k0_off8 c (wd r) = ![(bw c r).val, 0, 0] := by revert c r; decide +kernel
theorem off10_eq (c : Dev nD) (r : Fin 15) : k0_off10 c (wd r) = ![32 * (bw c r).val, 0] := by revert c r; decide +kernel
theorem off11_eq (c : Dev nD) (r : Fin 15) : k0_off11 c (wd r) = ![32 * (bw c r).val, 0] := by revert c r; decide +kernel

/-! ## The semaphores' numbers -/

/-- The `j`-th semaphore of the `k`-th array: `0`, `1` the sends and the receives of the reduction, `2`, `3` of the gather. -/
def num (k : Fin 4) (j : Dev nD) : DmaSem sig :=
  ⟨3 + 16 * k.val + j.val, by have := k.isLt; have := j.isLt; show _ < 67; have : j.val < 16 := j.isLt; omega⟩

theorem semF4_eq (c : Dev nD) (r : Fin 15) : semF cc0_scratch4 c r = num 0 (fw c r) := by revert c r; decide +kernel
theorem semO5_eq (c : Dev nD) : semO cc0_scratch5 c = num 1 c := by revert c; decide +kernel
theorem semB5_eq (c : Dev nD) (r : Fin 15) : semB cc0_scratch5 c r = num 1 (bw c r) := by revert c r; decide +kernel
theorem semF6_eq (c : Dev nD) (r : Fin 15) : semF cc0_scratch6 c r = num 2 (fw c r) := by revert c r; decide +kernel
theorem semO7_eq (c : Dev nD) : semO cc0_scratch7 c = num 3 c := by revert c; decide +kernel
theorem semB7_eq (c : Dev nD) (r : Fin 15) : semB cc0_scratch7 c r = num 3 (bw c r) := by revert c r; decide +kernel

/-! ## Blocks of rows and slots -/

/-- The elements of block `j`: rows `32 j` to `32 j + 31`. -/
def rows (j : Dev nD) : Finset S512x512.Idx := Finset.univ.filter fun i => (i 0).val / 32 = j.val
/-- The elements of slot `j`. -/
def slot (j : Dev nD) : Finset S16x32x512.Idx := Finset.univ.filter fun i => (i 0).val = j.val

theorem mem_rows {j : Dev nD} {i : S512x512.Idx} : i ∈ rows j ↔ (i 0).val / 32 = j.val := by simp [rows]
theorem mem_slot {j : Dev nD} {i : S16x32x512.Idx} : i ∈ slot j ↔ (i 0).val = j.val := by simp [slot]

/-- Where an element of a `32 × 512` block sits in block `j`. -/
def rowOf (j : Dev nD) (x : S32x512.Idx) : S512x512.Idx :=
  ix2 (⟨32 * j.val + (x 0).val, by
    have h : (x 0).val < 32 := (x 0).isLt
    have h' : j.val < 16 := j.isLt
    omega⟩ : Fin 512) (x 1)
/-- Where an element of a `32 × 512` block sits in slot `j`. -/
def slotOf (j : Dev nD) (x : S32x512.Idx) : S16x32x512.Idx := ix3 (⟨j.val, j.isLt⟩ : Fin 16) (x 0) (x 1)
/-- Which block an element is in. -/
def blockOf (i : S512x512.Idx) : Dev nD := ⟨(i 0).val / 32, by have h : (i 0).val < 512 := (i 0).isLt; show _ < 16; omega⟩
/-- An element's place within its block. -/
def rowIn (i : S512x512.Idx) : S32x512.Idx := ix2 (⟨(i 0).val % 32, Nat.mod_lt _ (by decide)⟩ : Fin 32) (i 1)
/-- Which slot an element is in. -/
def slotAt (i : S16x32x512.Idx) : Dev nD := ⟨(i 0).val, (i 0).isLt⟩
/-- An element's place within its slot. -/
def slotIn (i : S16x32x512.Idx) : S32x512.Idx := ix2 (i 1) (i 2)

theorem rowIn_rowOf (j : Dev nD) (x : S32x512.Idx) : rowIn (rowOf j x) = x := by
  have h : (x 0).val < 32 := (x 0).isLt
  refine (funext fun a => Fin.ext ?_)
  fin_cases a
  · show (32 * j.val + (x 0).val) % 32 = (x 0).val
    omega
  · rfl
theorem blockOf_rowOf (j : Dev nD) (x : S32x512.Idx) : blockOf (rowOf j x) = j := by
  have h : (x 0).val < 32 := (x 0).isLt
  refine Fin.ext ?_
  show (32 * j.val + (x 0).val) / 32 = j.val
  omega
theorem rowOf_rowIn (i : S512x512.Idx) : rowOf (blockOf i) (rowIn i) = i := by
  refine (funext fun a => Fin.ext ?_)
  fin_cases a
  · show 32 * ((i 0).val / 32) + (i 0).val % 32 = (i 0).val
    omega
  · rfl
theorem slotIn_slotOf (j : Dev nD) (x : S32x512.Idx) : slotIn (slotOf j x) = x := by
  refine (funext fun a => ?_)
  fin_cases a <;> rfl
theorem slotAt_slotOf (j : Dev nD) (x : S32x512.Idx) : slotAt (slotOf j x) = j := rfl
theorem slotOf_slotIn (i : S16x32x512.Idx) : slotOf (slotAt i) (slotIn i) = i := by
  refine (funext fun a => ?_)
  fin_cases a <;> rfl

theorem mem_rows' {j : Dev nD} {i : S512x512.Idx} : i ∈ rows j ↔ blockOf i = j := by
  rw [mem_rows, Fin.ext_iff]; rfl
theorem mem_slot' {j : Dev nD} {i : S16x32x512.Idx} : i ∈ slot j ↔ slotAt i = j := by
  rw [mem_slot, Fin.ext_iff]; rfl
theorem rowOf_mem (j : Dev nD) (x : S32x512.Idx) : rowOf j x ∈ rows j := mem_rows'.2 (blockOf_rowOf j x)
theorem slotOf_mem (j : Dev nD) (x : S32x512.Idx) : slotOf j x ∈ slot j := mem_slot'.2 rfl

theorem rows_cover : (Finset.univ : Finset S512x512.Idx) = (Finset.univ : Finset (Dev nD)).biUnion rows := by
  ext i; simp [mem_rows']
theorem slot_cover : (Finset.univ : Finset S16x32x512.Idx) = (Finset.univ : Finset (Dev nD)).biUnion slot := by
  ext i; simp [mem_slot']
theorem rows_disjoint (j k : Dev nD) (h : j ≠ k) : Disjoint (rows j) (rows k) :=
  Finset.disjoint_left.2 fun i hj hk => h ((mem_rows'.1 hj).symm.trans (mem_rows'.1 hk))
theorem slot_disjoint (j k : Dev nD) (h : j ≠ k) : Disjoint (slot j) (slot k) :=
  Finset.disjoint_left.2 fun i hj hk => h ((mem_slot'.1 hj).symm.trans (mem_slot'.1 hk))

/-! ## Rectangles at those blocks -/

/-- A rectangle of thirty-two whole rows at `32 j` places its elements in block `j`. -/
theorem emb_rows {off : Fin 2 → ℕ} {inb} (j : Dev nD) (h : off = ![32 * j.val, 0]) (x : S32x512.Idx) :
    (Rect.unit (s := S512x512) off S32x512.size inb).emb x = rowOf j x := by
  subst h
  refine (funext fun a => Fin.ext ?_)
  rw [ValueKit.rect_emb_unit_val]
  fin_cases a
  · rfl
  · exact Nat.zero_add _
/-- A rectangle of one whole slot at `j` places its elements in slot `j`. -/
theorem emb_slot {off : Fin 3 → ℕ} {inb} (j : Dev nD) (h : off = ![j.val, 0, 0]) (x : S1x32x512.Idx) :
    (Rect.unit (s := S16x32x512) off S1x32x512.size inb).emb x = slotOf j (ix2 (x 1) (x 2)) := by
  subst h
  refine (funext fun a => Fin.ext ?_)
  rw [ValueKit.rect_emb_unit_val]
  have h0 : (x 0).val < 1 := (x 0).isLt
  fin_cases a
  · show j.val + (x 0).val = j.val
    omega
  · exact Nat.zero_add _
  · exact Nat.zero_add _
/-- Its element set is block `j`. -/
theorem set_rows {off : Fin 2 → ℕ} {inb} (j : Dev nD) (h : off = ![32 * j.val, 0]) :
    (Rect.unit (s := S512x512) off S32x512.size inb).set = rows j := by
  ext i
  rw [← Rect.map_emb_univ, Finset.mem_map]
  constructor
  · rintro ⟨x, -, rfl⟩
    rw [emb_rows j h]; exact rowOf_mem j x
  · intro hi
    obtain rfl := mem_rows'.1 hi
    exact ⟨rowIn i, Finset.mem_univ _, (emb_rows _ h _).trans (rowOf_rowIn i)⟩
/-- Its element set is slot `j`. -/
theorem set_slot {off : Fin 3 → ℕ} {inb} (j : Dev nD) (h : off = ![j.val, 0, 0]) :
    (Rect.unit (s := S16x32x512) off S1x32x512.size inb).set = slot j := by
  ext i
  rw [← Rect.map_emb_univ, Finset.mem_map]
  constructor
  · rintro ⟨x, -, rfl⟩
    rw [emb_slot j h]; exact slotOf_mem j _
  · intro hi
    obtain rfl := mem_slot'.1 hi
    exact ⟨ix3 (0 : Fin 1) (i 1) (i 2), Finset.mem_univ _, (emb_slot _ h _).trans (slotOf_slotIn i)⟩

/-! ## The views -/

theorem pF_set (c : Dev nD) (r : Fin 15) : (pF c r).view.set = rows (fw c r) :=
  (View.set_slice_whole _ _).trans (set_rows _ (off4_eq c r))
theorem gO_set (c : Dev nD) : (gO c).view.set = slot c :=
  (View.set_reshape _ _).trans ((View.set_slice_whole _ _).trans (set_slot _ (k0_off3_eq c)))
theorem gB_set (c : Dev nD) (r : Fin 15) : (gB c r).view.set = slot (bw c r) :=
  (View.set_reshape _ _).trans ((View.set_slice_whole _ _).trans (set_slot _ (off8_eq c r)))
theorem xO_set (c : Dev nD) : (xO c).view.set = rows c :=
  (View.set_slice_whole _ _).trans (set_rows _ (k0_off9_eq c))
theorem xB_set (c : Dev nD) (r : Fin 15) : (xB c r).view.set = rows (bw c r) :=
  (View.set_slice_whole _ _).trans (set_rows _ (off10_eq c r))
theorem rB_set (c : Dev nD) (r : Fin 15) : (rB c r).set = rows (bw c r) := set_rows _ (off11_eq c r)
theorem rO_set (c : Dev nD) : (rO c).set = rows c := set_rows _ (k0_off5_eq c)
theorem rS_set (c : Dev nD) : (rS c).set = slot c := set_slot _ (k0_off6_eq c)

theorem pF_emb (c : Dev nD) (r : Fin 15) (x : S32x512.Idx) : (pF c r).view.emb x = rowOf (fw c r) x :=
  emb_rows (inb := k0_off4_inb c r) _ (off4_eq c r) x
theorem xO_emb (c : Dev nD) (x : S32x512.Idx) : (xO c).view.emb x = rowOf c x :=
  emb_rows (inb := k0_off9_inb c) _ (k0_off9_eq c) x
theorem gO_emb (c : Dev nD) (x : S32x512.Idx) : (gO c).view.emb x = slotOf c x := by
  have hx : x = ix2 (x 0) (x 1) := by refine (funext fun a => ?_); fin_cases a <;> rfl
  refine Eq.trans ?_ (emb_slot (inb := k0_off3_inb c) _ (k0_off3_eq c) (ix3 (⟨0, Nat.one_pos⟩ : Fin 1) (x 0) (x 1)))
  rw [hx]
  exact congrArg (Rect.unit (s := S16x32x512) (k0_off3 c) S1x32x512.size (k0_off3_inb c)).emb (reshapeEquiv_ix2_1ab _ (x 0) (x 1))

end Cert.ReduceGather

end
-- ==== Proof.Schedule.lean ====
/-
# The protocol

The semaphore cells, what each unit arriving at a cell hands its owner, the values the buffers hold, and the order on the
cells by which no wait is on a cycle.

One round, round 0. A device's barrier cell has a duty of one unit for each peer: the peer's slot and rows of this device's
index, which this device will write. A device's cell of array `k` at index `j` has, for `j` another device, one duty of the
transfer's credit: array 0 and 2, the source of this device's transfer to `j` back; array 1, its slot `j` holding `j`'s rows of
the partial product; array 3, its rows `j` holding `j`'s reduced chunk. The cells at a device's own index are never used.
-/
module

public import proofs.«01_k».proof.Proof.Geometry
public import Idealize.ShloMosaic.Lib.Pipeline.BigSepL

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Cells -/

/-- The index of a device's cell: the barrier, or array `k` at `j`. -/
abbrev CI : Type := Option (Fin 4 × Dev nD)
/-- The semaphore of an index. -/
abbrev csem : CI → SemLoc sig
  | none => .reg barS
  | some p => .dma (num p.1 p.2)
/-- A device's cell. -/
abbrev kcell (c : Dev nD) (i : CI) : GSem nD τ sig := ((c : Thread nD τ), csem i)
abbrev barCell (c : Dev nD) : GSem nD τ sig := kcell c none
abbrev dCell (k : Fin 4) (c j : Dev nD) : GSem nD τ sig := kcell c (some (k, j))

set_option backward.proofsInPublic true in
/-- The index a semaphore has, if it is one of the protocol's. -/
def cls : SemLoc sig → Option CI
  | .reg s => if s = barS then some none else none
  | .dma q => if 3 ≤ q.val then
      some (some (⟨((q.val - 3) / 16) % 4, Nat.mod_lt _ (by decide)⟩, ⟨(q.val - 3) % 16, Nat.mod_lt _ (by decide)⟩)) else none

theorem cls_bar : cls (.reg barS) = some none := by decide +kernel
theorem cls_num (k : Fin 4) (j : Dev nD) : cls (.dma (num k j)) = some (some (k, j)) := by revert k j; decide +kernel
theorem cls_csem (i : CI) : cls (csem i) = some i := by
  rcases i with _ | ⟨k, j⟩
  · exact cls_bar
  · exact cls_num k j
theorem csem_injective : Function.Injective csem := fun i j h => by
  have := congrArg cls h
  rw [cls_csem, cls_csem] at this
  exact Option.some.inj this
theorem kcell_injective : Function.Injective (fun p : Dev nD × CI => kcell p.1 p.2) := by
  rintro ⟨c, i⟩ ⟨c', i'⟩ h
  have h1 : c = c' := congrArg (fun g : GSem nD τ sig => g.1.1) h
  have h2 : i = i' := csem_injective (congrArg Prod.snd h)
  rw [h1, h2]

/-- The credit of a transfer of thirty-two rows. -/
abbrev N : ℕ := (hM : Memref sig .tc .vmem S32x512 .bf16).view.dmaCredit
theorem N_pos : 0 < N := View.dmaCredit_pos _ (by decide)

/-! ## Contents -/

/-- Device `c`'s block of `A`, staged. -/
def argA (c : Dev nD) : (cc0_stg0_0 : Ref sig .tc).ty.Contents (Elt F) :=
  (win0_0.blk (0 : Fin 1)).view.read (Elt F) ((s₀ m ρ).mem ((c : Thread nD τ).loc main_arg0))
/-- Device `c`'s block of `B`, staged. -/
def argB (c : Dev nD) : (cc0_stg1_0 : Ref sig .tc).ty.Contents (Elt F) :=
  (win0_1.blk (0 : Fin 1)).view.read (Elt F) ((s₀ m ρ).mem ((c : Thread nD τ).loc main_arg1))
/-- Device `c`'s partial product. -/
def part (c : Dev nD) : (cc0_scratch0 : Ref sig .tc).ty.Contents (Elt F) := k0_pay1 (argA m ρ c) (argB m ρ c)
/-- The sixteen devices' rows `c` of the partial products. -/
def gath (c : Dev nD) : (cc0_scratch1 : Ref sig .tc).ty.Contents (Elt F) :=
  fun i => part m ρ (slotAt i) (rowOf c (slotIn i))
/-- Device `c`'s reduced chunk. -/
def chunk (c : Dev nD) : (cc0_scratch2 : Ref sig .tc).ty.Contents (Elt F) := k0_pay4 (gath m ρ c)
/-- Every device's reduced chunk, at its rows. -/
def allChunks : (cc0_scratch3 : Ref sig .tc).ty.Contents (Elt F) := fun i => chunk m ρ (blockOf i) (rowIn i)
/-- The result on device `c`: its own rows from its sum, the others' from their chunks. -/
def outAt (c : Dev nD) : (cc0_stg2_0 : Ref sig .tc).ty.Contents (Elt F) := fun i =>
  if blockOf i = c then k0_pay3 (gath m ρ c) (rowIn i) else k0_pay5 (chunk m ρ (blockOf i)) (rowIn i)

/-! ## Pieces of the buffers -/

/-- Rows `j` of the partial product on `c`. -/
def pPts (c j : Dev nD) (f : Buf (Elt F) ((c : Thread nD τ).loc cc0_scratch0)) : sProp 𝕄 :=
  ((c : Thread nD τ).loc cc0_scratch0) ↦[rows j]{fullShare} f
/-- Slot `j` on `c`. -/
def gPts (c j : Dev nD) (f : Buf (Elt F) ((c : Thread nD τ).loc cc0_scratch1)) : sProp 𝕄 :=
  ((c : Thread nD τ).loc cc0_scratch1) ↦[slot j]{fullShare} f
/-- The reduced chunk on `c`, at a share. -/
def hPts (c : Dev nD) (q : PosShare TreeShare) (f : Buf (Elt F) ((c : Thread nD τ).loc cc0_scratch2)) : sProp 𝕄 :=
  ((c : Thread nD τ).loc cc0_scratch2) ↦{q} f
/-- Rows `j` of the gather buffer on `c`. -/
def xPts (c j : Dev nD) (f : Buf (Elt F) ((c : Thread nD τ).loc cc0_scratch3)) : sProp 𝕄 :=
  ((c : Thread nD τ).loc cc0_scratch3) ↦[rows j]{fullShare} f

instance pPts_storable (c j : Dev nD) (f) : BI.Storable (upEmb : UEmb _ 𝕄) (pPts (F := F) c j f) := by unfold pPts; infer_instance
instance gPts_storable (c j : Dev nD) (f) : BI.Storable (upEmb : UEmb _ 𝕄) (gPts (F := F) c j f) := by unfold gPts; infer_instance
instance hPts_storable (c : Dev nD) (q) (f) : BI.Storable (upEmb : UEmb _ 𝕄) (hPts (F := F) c q f) := by unfold hPts; infer_instance
instance xPts_storable (c j : Dev nD) (f) : BI.Storable (upEmb : UEmb _ 𝕄) (xPts (F := F) c j f) := by unfold xPts; infer_instance

/-- The share of the chunk left after `n` transfers took theirs. -/
def rem : ℕ → PosShare TreeShare
  | 0 => fullShare
  | n + 1 => (rem n).right
/-- The share turn `r`'s transfer takes. -/
def lent (r : Fin 15) : PosShare TreeShare := (rem r.val).left

/-! ## The schedule -/

/-- What peer `p`'s unit hands device `c`: `p`'s slot `c` and `p`'s rows `c`. -/
def barPay (c p : Dev nD) : sProp 𝕄 := iprop((∃ f, gPts (F := F) p c f) ∗ ∃ f, xPts (F := F) p c f)
/-- What the transfer of array `k` at index `j` hands device `c`. -/
def dmaPay (k : Fin 4) (c j : Dev nD) : sProp 𝕄 :=
  if k = 0 then pPts c j (part m ρ c)
  else if k = 1 then gPts c j (gath m ρ c)
  else if k = 2 then hPts c (lent (turnF c j)) (chunk m ρ c)
  else xPts c j (allChunks m ρ)

instance barPay_storable (c p : Dev nD) : BI.Storable (upEmb : UEmb _ 𝕄) (barPay (F := F) c p) := by unfold barPay; infer_instance
instance dmaPay_storable (k : Fin 4) (c j : Dev nD) : BI.Storable (upEmb : UEmb _ 𝕄) (dmaPay m ρ k c j) := by
  unfold dmaPay; (repeat' split) <;> infer_instance

/-- A cell's duties in round 0, by its index. -/
def dutiesOf (c : Dev nD) : Option CI → Finset (Dev nD)
  | some none => Finset.univ.erase c
  | some (some p) => if p.2 = c then ∅ else {p.2}
  | none => ∅
/-- A duty's payload, by its cell's index. -/
def payOf (c d : Dev nD) : Option CI → sProp 𝕄
  | some none => barPay c d
  | some (some p) => dmaPay m ρ p.1 c p.2
  | none => iprop(emp)
/-- A duty's units: one on a regular semaphore, the transfer's credit on another. -/
def amountOf : SemLoc sig → ℕ
  | .reg _ => 1
  | .dma _ => N

/-- The schedule. -/
def Rd : Rounds.Schedule (GSem nD τ sig) (Dev nD) 𝕄 where
  duties g r := if r = 0 ∧ g.1.2 = .tc then dutiesOf g.1.1 (cls g.2) else ∅
  unitless _ := False
  amount g _ _ := amountOf g.2
  payload g _ d := payOf m ρ g.1.1 d (cls g.2)
  amount_pos g _ _ _ := by
    show 0 < amountOf g.2
    cases g.2 with
    | reg _ => exact Nat.one_pos
    | dma _ => exact N_pos

instance Rd_payload_storable (g : GSem nD τ sig) (r : ℕ) (d : Dev nD) :
    BI.Storable (upEmb : UEmb _ 𝕄) ((Rd (F := F) m ρ).payload g r d) := by
  show BI.Storable upEmb (payOf m ρ g.1.1 d (cls g.2))
  unfold payOf
  split <;> infer_instance

theorem duties_bar (c : Dev nD) : (Rd (F := F) m ρ).duties (barCell c) 0 = Finset.univ.erase c := by
  dsimp only [Rd]; rw [if_pos ⟨rfl, rfl⟩, cls_csem]; rfl
theorem duties_dma (k : Fin 4) (c j : Dev nD) (h : j ≠ c) : (Rd (F := F) m ρ).duties (dCell k c j) 0 = {j} := by
  dsimp only [Rd]; rw [if_pos ⟨rfl, rfl⟩, cls_csem]; exact if_neg h
theorem duties_own (k : Fin 4) (c : Dev nD) (r : ℕ) : (Rd (F := F) m ρ).duties (dCell k c c) r = ∅ := by
  dsimp only [Rd]
  split
  · rw [cls_csem]; exact if_pos rfl
  · rfl
theorem duties_later (g : GSem nD τ sig) (r : ℕ) (h : 1 ≤ r) : (Rd (F := F) m ρ).duties g r = ∅ := by
  dsimp only [Rd]; exact if_neg fun h' => by omega
theorem amount_bar (c d : Dev nD) : (Rd (F := F) m ρ).amount (barCell c) 0 d = 1 := rfl
theorem amount_dma (k : Fin 4) (c j d : Dev nD) : (Rd (F := F) m ρ).amount (dCell k c j) 0 d = N := rfl
theorem payload_bar (c d : Dev nD) : (Rd (F := F) m ρ).payload (barCell c) 0 d = barPay c d := by
  dsimp only [Rd]; rw [cls_csem]; rfl
theorem payload_dma (k : Fin 4) (c j d : Dev nD) : (Rd (F := F) m ρ).payload (dCell k c j) 0 d = dmaPay m ρ k c j := by
  dsimp only [Rd]; rw [cls_csem]; rfl
theorem expect_bar (c : Dev nD) : (Rd (F := F) m ρ).expect (barCell c) 0 = 15 := by
  unfold Schedule.expect Schedule.amountOf
  rw [duties_bar, Finset.sum_congr rfl fun d _ => amount_bar m ρ c d, Finset.sum_const, Finset.card_erase_of_mem (Finset.mem_univ _),
    Finset.card_univ, Fintype.card_fin]
  rfl
theorem expect_dma (k : Fin 4) (c j : Dev nD) (h : j ≠ c) : (Rd (F := F) m ρ).expect (dCell k c j) 0 = N := by
  unfold Schedule.expect Schedule.amountOf; rw [duties_dma m ρ k c j h, Finset.sum_singleton, amount_dma]
/-- What the barrier's round hands its owner. -/
theorem rest_bar (c : Dev nD) :
    bigSep ((Rd (F := F) m ρ).duties (barCell c) 0 \ ∅) (fun d => (Rd (F := F) m ρ).payload (barCell c) 0 d)
      = bigSep (Finset.univ.erase c) fun p => barPay (F := F) c p := by
  rw [Finset.sdiff_empty, duties_bar]; exact bigSep_congr fun d _ => payload_bar m ρ c d
/-- What a transfer's round hands its owner. -/
theorem rest_dma (k : Fin 4) (c j : Dev nD) (h : j ≠ c) :
    bigSep ((Rd (F := F) m ρ).duties (dCell k c j) 0 \ ∅) (fun d => (Rd (F := F) m ρ).payload (dCell k c j) 0 d) = dmaPay m ρ k c j := by
  rw [Finset.sdiff_empty, duties_dma m ρ k c j h, bigSep_singleton, payload_dma]

/-! ## Peers, turn by turn -/

theorem turns_nodup : turns.Nodup := by decide
theorem erase_fw (c : Dev nD) : Finset.univ.erase c = (turns.map (fw c)).toFinset := by revert c; decide +kernel
theorem erase_bw (c : Dev nD) : Finset.univ.erase c = (turns.map (bw c)).toFinset := by revert c; decide +kernel

/-- The peers, in the forward order. -/
theorem peers_fw (c : Dev nD) (Φ : Dev nD → sProp 𝕄) :
    bigSep (Finset.univ.erase c) Φ = bigSepL turns fun r => Φ (fw c r) := by
  rw [bigSep_eq_bigSepL_of_eq _ (erase_fw c) (turns_nodup.map (fw_injective c)), bigSepL_map]
/-- The peers, in the backward order. -/
theorem peers_bw (c : Dev nD) (Φ : Dev nD → sProp 𝕄) :
    bigSep (Finset.univ.erase c) Φ = bigSepL turns fun r => Φ (bw c r) := by
  rw [bigSep_eq_bigSepL_of_eq _ (erase_bw c) (turns_nodup.map (bw_injective c)), bigSepL_map]
/-- All devices: itself and its peers. -/
theorem self_peers (c : Dev nD) (Φ : Dev nD → sProp 𝕄) :
    bigSep Finset.univ Φ = iprop(Φ c ∗ bigSep (Finset.univ.erase c) Φ) := bigSep_erase (Finset.mem_univ c)

/-- The tallies of the turns `l`, the first turn's last. -/
def tal (Φ : Fin 15 → CellTallies nD τ sig Unit) : List (Fin 15) → CellTallies nD τ sig Unit
  | [] => 0
  | r :: l => tal Φ l + Φ r

theorem tal_pos {Φ : Fin 15 → CellTallies nD τ sig Unit} {g : GSem nD τ sig} {u : Unit} :
    ∀ {l : List (Fin 15)}, 0 < tal Φ l g u → ∃ r, 0 < Φ r g u
  | [], h => absurd h (Nat.lt_irrefl 0)
  | r :: l, h => by
    unfold tal at h
    rw [Pi.add_apply, Finsupp.add_apply] at h
    rcases Nat.eq_zero_or_pos (Φ r g u) with h0 | h0
    · rw [h0, Nat.add_zero] at h; exact tal_pos h
    · exact ⟨r, h0⟩

theorem tal_eq_list (Φ : Fin 15 → CellTallies nD τ sig Unit) : ∀ l : List (Fin 15), tal Φ l = (l.map Φ).sum
  | [] => rfl
  | r :: l => by unfold tal; rw [tal_eq_list Φ l, List.map_cons, List.sum_cons, add_comm]

/-- All the turns' tallies, as a sum over the peers. -/
theorem tal_peers (c : Dev nD) (Ψ : Dev nD → CellTallies nD τ sig Unit) :
    tal (fun r => Ψ (fw c r)) turns = ∑ p ∈ Finset.univ.erase c, Ψ p := by
  rw [tal_eq_list, erase_fw, List.sum_toFinset _ (turns_nodup.map (fw_injective c)), List.map_map]; rfl

/-! ## What a device owes, and the levels -/

/-- The units of the barrier still to signal. -/
def OB (c : Dev nD) (l : List (Fin 15)) : CellTallies nD τ sig Unit := tal (fun r => tallyAt (barCell (fw c r)) () 1) l
/-- The credits of the reduction still to send. -/
def O1 (c : Dev nD) (l : List (Fin 15)) : CellTallies nD τ sig Unit := tal (fun r => tallyAt (dCell 1 (fw c r) c) () N) l
/-- The credits of the gather still to send. -/
def O2 (c : Dev nD) (l : List (Fin 15)) : CellTallies nD τ sig Unit := tal (fun r => tallyAt (dCell 3 (fw c r) c) () N) l
/-- What a device owes at launch. -/
def O₀ (c : Dev nD) : CellTallies nD τ sig Unit := O2 c turns + O1 c turns + OB c turns

def L (g : GSem nD τ sig) : Finset Unit := if g.1.2 = .tc then {()} else ∅
/-- An index's level: the barrier below the reduction's receives, those below the gather's; everything else at the bottom. -/
def lvOf : Option CI → ℕ
  | some none => 1
  | some (some p) => if p.1 = 1 then 2 else if p.1 = 3 then 3 else 0
  | none => 0
def lv (g : GSem nD τ sig) (_ : Unit) : ℕ := lvOf (cls g.2)

theorem L_of_ne (g : GSem nD τ sig) (h : g.1.2 ≠ .tc) : L g = ∅ := if_neg h
theorem lv_kcell (c : Dev nD) (i : CI) (u : Unit) : lv (kcell c i) u = lvOf (some i) := by unfold lv; rw [cls_csem]

/-- Every cell of the tallies `O` is a device's cell of an index at level above `n`. -/
def Above (n : ℕ) (O : CellTallies nD τ sig Unit) : Prop :=
  ∀ (g : GSem nD τ sig) (u : Unit), 0 < O g u → ∃ c i, g = kcell c i ∧ n < lvOf (some i)

theorem above_at {n : ℕ} (c : Dev nD) (i : CI) (k : ℕ) (h : n < lvOf (some i)) : Above n (tallyAt (kcell c i) () k) := fun g u hg => by
  rw [tallyAt_apply] at hg
  by_cases hc : g = kcell c i ∧ u = ()
  · exact ⟨c, i, hc.1, h⟩
  · rw [if_neg hc] at hg; exact absurd hg (Nat.lt_irrefl 0)
theorem above_tal {n : ℕ} {Φ : Fin 15 → CellTallies nD τ sig Unit} (h : ∀ r, Above n (Φ r)) (l : List (Fin 15)) : Above n (tal Φ l) :=
  fun g u hg => by obtain ⟨r, hr⟩ := tal_pos hg; exact h r g u hr
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem above_zero {n : ℕ} : Above n 0 := fun g u hg => absurd hg (Nat.lt_irrefl 0)

theorem above_O2 {n : ℕ} (hn : n ≤ 2) (c : Dev nD) (l) : Above n (O2 c l) := above_tal (fun r => above_at _ _ _ (Nat.lt_succ_of_le hn)) l
theorem above_O1 {n : ℕ} (hn : n ≤ 1) (c : Dev nD) (l) : Above n (O1 c l) := above_tal (fun r => above_at _ _ _ (Nat.lt_succ_of_le hn)) l
theorem above_OB (c : Dev nD) (l) : Above 0 (OB c l) := above_tal (fun r => above_at _ _ _ Nat.one_pos) l
theorem above_O₀ (c : Dev nD) : Above 0 (O₀ c) :=
  above_add (above_add (above_O2 (by decide) c _) (above_O1 (by decide) c _)) (above_OB c _)

/-- A device may wait on a cell while everything it owes is at higher levels. -/
theorem mayWait (c : Dev nD) (sm : SemLoc sig) {n : ℕ} (O : CellTallies nD τ sig Unit) (h : Above n O)
    (hs : lvOf (cls sm) ≤ n) : (levAts L lv : sProp 𝕄) ⊢ MayWait (c : Thread nD τ) sm () O :=
  MayOwe.of_cut (L := L) (lev := lv) n (fun p hp => by rw [Finset.mem_singleton.mp hp]; exact Finset.mem_singleton_self _)
    (fun g u hg => by obtain ⟨c', i, rfl, -⟩ := h g u hg; exact Finset.mem_singleton_self _)
    (fun p hp => by rw [Finset.mem_singleton.mp hp]; exact hs)
    (fun g u hg => by obtain ⟨c', i, rfl, hi⟩ := h g u hg; rw [lv_kcell]; exact hi)

end Cert.ReduceGather

end
-- ==== Proof.Steps.lean ====
/-
# One turn of each loop

For each of the kernel's loops, what one turn of it takes and leaves; and the rule that carries a turn's statement over the whole
list of turns.
-/
module

public import proofs.«01_k».proof.Proof.Schedule

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP (c : Dev nD) (p : KProg F) (Q : PUnit → sProp 𝕄) : sProp 𝕄 :=
  wp frame (wpE (defs₀ (F := F)) 𝒱₀ (c : Thread nD τ) none) Set.univ p Q

/-- The rule of a loop: a turn's statement, at every list of turns still to run, gives the loop's. -/
theorem wp_loop {c : Dev nD} {Q : PUnit → sProp 𝕄} (op : Fin 15 → KProg F → KProg F) (C : List (Fin 15) → sProp 𝕄)
    (Φ Ψ : Fin 15 → sProp 𝕄)
    (h : ∀ r l k, iprop(C (r :: l) ∗ Φ r) ⊢ iprop((C l ∗ Ψ r -∗ WP c k Q) -∗ WP c (op r k) Q)) :
    ∀ l k, iprop(C l ∗ bigSepL l Φ) ⊢ iprop((C [] ∗ bigSepL l Ψ -∗ WP c k Q) -∗ WP c (loop op k l) Q)
  | [], k => by
    iintro ⟨HC, -⟩ Hk
    iapply Hk
    isplitl; · iexact HC
    rw [bigSepL_nil]; iempintro
  | r :: l, k => by
    rw [bigSepL_cons', bigSepL_cons']
    iintro ⟨HC, Hr, Hl⟩ Hk
    rw [loop, List.foldr_cons]
    iapply (h r l (loop op k l)) $$ [HC Hr]
    · isplitl [HC] <;> iassumption
    iintro ⟨HC, Hr⟩
    iapply (wp_loop op C Φ Ψ h l k) $$ [HC Hl]
    · isplitl [HC] <;> iassumption
    iintro ⟨HC, Hl⟩
    iapply Hk
    isplitl [HC]; · iexact HC
    isplitl [Hr] <;> iassumption

/-! ## The records: every cell's invariant, and that every cell has reached round 0 -/

variable (K : Dev nD × CI → ℕ)

def records : sProp 𝕄 :=
  iprop(((bigSep Finset.univ fun p : Dev nD × CI => cellInv ER (Rd m ρ) (K p) (kcell p.1 p.2))
    ∗ bigSep Finset.univ fun p : Dev nD × CI => reached ER (kcell p.1 p.2) 0) ∗ levAts L lv)

instance records_persistent : BI.Persistent (records m ρ K) := by unfold records; infer_instance

theorem inv_at (c : Dev nD) (i : CI) : records m ρ K ⊢ cellInv ER (Rd m ρ) (K (c, i)) (kcell c i) := by
  have h : (bigSep Finset.univ fun p : Dev nD × CI => (cellInv ER (Rd m ρ) (K p) (kcell p.1 p.2) : sProp 𝕄))
      ⊢ cellInv ER (Rd m ρ) (K (c, i)) (kcell c i) := bigSep_elim (Finset.mem_univ (c, i))
  unfold records
  iintro ⟨⟨H, -⟩, -⟩
  iapply h
  iexact H
theorem reached_at (c : Dev nD) (i : CI) : records m ρ K ⊢ reached ER (kcell c i) 0 := by
  have h : (bigSep Finset.univ fun p : Dev nD × CI => (reached ER (kcell p.1 p.2) 0 : sProp 𝕄))
      ⊢ reached ER (kcell c i) 0 := bigSep_elim (Finset.mem_univ (c, i))
  unfold records
  iintro ⟨⟨-, H⟩, -⟩
  iapply h
  iexact H
theorem mayWait_kept (c : Dev nD) (sm : SemLoc sig) {n : ℕ} (O : CellTallies nD τ sig Unit) (h : Above n O)
    (hs : lvOf (cls sm) ≤ n) : records m ρ K ⊢ MayWait (c : Thread nD τ) sm () O := by
  unfold records
  iintro ⟨-, H⟩
  iapply (mayWait (F := F) c sm O h hs)
  iexact H

/-- What a loop keeps: the records, and what the device owes. -/
def Kept (c : Dev nD) (O : CellTallies nD τ sig Unit) : sProp 𝕄 :=
  iprop(records m ρ K ∗ ∃ W, owes (c : Thread nD τ) O W)

/-! ## The entry barrier -/

/-- A turn of the barrier: one unit to the peer, with this device's slot and rows of the peer's index. -/
theorem step_bar (c : Dev nD) (Q : PUnit → sProp 𝕄) (B : CellTallies nD τ sig Unit) (r : Fin 15) (l : List (Fin 15)) (k : KProg F) :
    iprop(Kept m ρ K c (B + OB c (r :: l))
        ∗ (dutyTok ER (barCell (fw c r)) 0 c ∗ (∃ f, gPts c (fw c r) f) ∗ ∃ f, xPts c (fw c r) f))
      ⊢ iprop((Kept m ρ K c (B + OB c l) ∗ iprop(emp) -∗ WP c k Q) -∗ WP c (opBar c r k) Q) := by
  unfold Kept
  iintro ⟨⟨#HR, ⟨%W, HO⟩⟩, Ht, Hg, Hx⟩ Hk
  unfold opBar
  rw [devB_eq]
  iapply (Rounds.wp_signal 𝒱₀ ER (Rd m ρ) (c : Thread nD τ) none (dst := (fw c r : Thread nD τ)) (κ := K (fw c r, none))
      (d := c) (by rw [duties_bar]; exact Finset.mem_erase.2 ⟨(fw_ne c r).symm, Finset.mem_univ _⟩) ((amount_bar m ρ (fw c r) c).trans (by decide)) ()
      (B + OB c l) (add_assoc _ _ _).symm)
    $$ [HO Ht Hg Hx]
  · isplitr; · iapply (inv_at m ρ K (fw c r) none); iexact HR
    isplitl [HO]; · iexact HO
    isplitl [Ht]; · iexact Ht
    isplitl
    · rw [payload_bar]; unfold barPay
      isplitl [Hg] <;> iassumption
    · iapply (reached_at m ρ K (fw c r) none); iexact HR
  iintro HO
  iapply Hk
  isplitl
  · isplitr; · iexact HR
    iexists W; iexact HO
  · iempintro

/-! ## The reduction's sends -/

theorem pF_pts (c : Dev nD) (r : Fin 15) (f : Buf (Elt F) ((c : Thread nD τ).loc cc0_scratch0)) :
    pPts c (fw c r) f = ((pF c r).view.loc (c : Thread nD τ) ↦[(pF c r).view.set]{fullShare} f : sProp 𝕄) := by
  unfold pPts; rw [pF_set]
theorem gO_pts (c d : Dev nD) (f : Buf (Elt F) ((d : Thread nD τ).loc cc0_scratch1)) :
    gPts d c f = ((gO c).view.loc (d : Thread nD τ) ↦[(gO c).view.set]{fullShare} f : sProp 𝕄) := by
  unfold gPts; rw [gO_set]
theorem xO_pts (c d : Dev nD) (f : Buf (Elt F) ((d : Thread nD τ).loc cc0_scratch3)) :
    xPts d c f = ((xO c).view.loc (d : Thread nD τ) ↦[(xO c).view.set]{fullShare} f : sProp 𝕄) := by
  unfold xPts; rw [xO_set]

/-- The rows the reduction's transfer lands in the peer's slot are what the peer's gathered partial products hold there. -/
theorem landed1 (c : Dev nD) (r : Fin 15) (fd : Buf (Elt F) ((fw c r : Thread nD τ).loc cc0_scratch1)) :
    gPts (fw c r) c ((gO c).view.write (Elt F) fd ((pF c r).view.read (Elt F) (part m ρ c)) Finset.univ)
      = gPts (fw c r) c (gath m ρ (fw c r)) := by
  unfold gPts
  refine pointsTo_congr fun i hi => ?_
  obtain ⟨x, rfl⟩ : ∃ x, i = slotOf c x := ⟨slotIn i, by rw [← mem_slot'.1 hi, slotOf_slotIn]⟩
  have h := View.write_emb_of_mem (Val := Elt F) (v := (gO c).view) fd ((pF c r).view.read (Elt F) (part m ρ c)) (Finset.mem_univ x)
  rw [gO_emb] at h
  refine h.trans ?_
  show part m ρ c ((pF c r).view.emb x) = part m ρ (slotAt (slotOf c x)) (rowOf (fw c r) (slotIn (slotOf c x)))
  rw [pF_emb, slotIn_slotOf]; rfl

/-- The reduction's transfer, its device and semaphores by their closed forms. -/
theorem wp_send1 (c : Dev nD) (r : Fin 15) (n : Dev nD) (hn : n = fw c r) (s : DmaSem sig) (hs : s = num 0 (fw c r))
    (t : DmaSem sig) (ht : t = num 1 c) {hsc : (gO c : Memref sig (Dev.tc n : Thread nD τ).2.kind .vmem S32x512 .bf16).view.ref.isScScratch = false}
    {hsrc : (pF c r).view.WordExact} {hdst : (gO c : Memref sig (Dev.tc n : Thread nD τ).2.kind .vmem S32x512 .bf16).view.WordExact}
    {hsem : DmaTarget.Typed .vmem (.dma t) (.remote (Dev.tc n : Thread nD τ) (gO c) (.dma s) hsc)}
    (Q : PUnit → sProp 𝕄) (k : KProg F) (O : CellTallies nD τ sig Unit) (W : Waits sig Unit)
    (fd : Buf (Elt F) ((fw c r : Thread nD τ).loc cc0_scratch1)) :
    iprop(cellInv ER (Rd m ρ) (K (c, some (0, fw c r))) (dCell 0 c (fw c r)) ∗ cellInv ER (Rd m ρ) (K (fw c r, some (1, c))) (dCell 1 (fw c r) c)
        ∗ pPts c (fw c r) (part m ρ c) ∗ gPts (fw c r) c fd
        ∗ owes (c : Thread nD τ) (O + tallyAt (dCell 1 (fw c r) c) () N) W
        ∗ dutyTok ER (dCell 0 c (fw c r)) 0 (fw c r) ∗ reached ER (dCell 0 c (fw c r)) 0
        ∗ dutyTok ER (dCell 1 (fw c r) c) 0 c ∗ reached ER (dCell 1 (fw c r) c) 0)
      ⊢ iprop((cred (tallyAt (dCell 0 c (fw c r)) () N) ∗ owes (c : Thread nD τ) O W -∗ WP c k Q)
          -∗ WP c (.op (.enqueueDma (pF c r) (.remote (Dev.tc n : Thread nD τ) (gO c) (.dma s) hsc) (.dma t) hsrc hdst hsem) fun _ => k) Q) := by
  subst hn hs ht
  have h₁ : fw c r ∈ (Rd (F := F) m ρ).duties (dCell 0 c (fw c r)) 0 := by rw [duties_dma m ρ 0 c _ (fw_ne c r)]; exact Finset.mem_singleton_self _
  have h₂ : c ∈ (Rd (F := F) m ρ).duties (dCell 1 (fw c r) c) 0 := by rw [duties_dma m ρ 1 _ c (fw_ne c r).symm]; exact Finset.mem_singleton_self _
  have p₁ : ((pF c r).view.loc (c : Thread nD τ) ↦[(pF c r).view.set]{fullShare} part m ρ c : sProp 𝕄)
      ⊢ (Rd (F := F) m ρ).payload (dCell 0 c (fw c r)) 0 (fw c r) := by
    rw [payload_dma, ← pF_pts]; exact BI.Entails.refl _
  have p₂ : ((gO c).view.loc (fw c r : Thread nD τ) ↦[(gO c).view.set]{fullShare}
        ((gO c).view.write (Elt F) fd ((pF c r).view.read (Elt F) (part m ρ c)) Finset.univ) : sProp 𝕄)
      ⊢ (Rd (F := F) m ρ).payload (dCell 1 (fw c r) c) 0 c := by
    rw [payload_dma, ← gO_pts, landed1]; exact BI.Entails.refl _
  rw [pF_pts, gO_pts]
  exact Rounds.wp_send_pointsTo 𝒱₀ ER (Rd m ρ) (c : Thread nD τ) none (κ₁ := K (c, some (0, fw c r))) (κ₂ := K (fw c r, some (1, c)))
    (c' := (fw c r : Thread nD τ)) (src := pF c r) (dst := gO c) (hsrc := hsrc) (hdst := hdst) (hsem := hsem) (hsc := hsc)
    h₁ h₂ () () N rfl (amount_dma m ρ 0 c _ _) (amount_dma m ρ 1 _ c _) O rfl (W := W) p₁ p₂ (Q := Q) (Es := Set.univ) (k := fun _ => k) (defs := defs₀ (F := F))

/-- A turn of the reduction's sends. -/
theorem step_send1 (c : Dev nD) (Q : PUnit → sProp 𝕄) (B : CellTallies nD τ sig Unit) (r : Fin 15) (l : List (Fin 15)) (k : KProg F) :
    iprop(Kept m ρ K c (B + O1 c (r :: l))
        ∗ (pPts c (fw c r) (part m ρ c) ∗ (∃ f, gPts (fw c r) c f)
          ∗ dutyTok ER (dCell 0 c (fw c r)) 0 (fw c r) ∗ dutyTok ER (dCell 1 (fw c r) c) 0 c))
      ⊢ iprop((Kept m ρ K c (B + O1 c l) ∗ cred (tallyAt (dCell 0 c (fw c r)) () N) -∗ WP c k Q) -∗ WP c (opSend1 c r k) Q) := by
  unfold Kept
  rw [show B + O1 c (r :: l) = B + O1 c l + tallyAt (dCell 1 (fw c r) c) () N from (add_assoc _ _ _).symm]
  iintro ⟨⟨#HR, ⟨%W, HO⟩⟩, Hp, ⟨%fd, Hg⟩, Ht1, Ht2⟩ Hk
  unfold opSend1
  iapply (wp_send1 m ρ K c r _ (dev1_eq c r) _ (semF4_eq c r) _ (semO5_eq c) Q k (B + O1 c l) W fd) $$ [HO Hp Hg Ht1 Ht2]
  · isplitr; · iapply (inv_at m ρ K c (some (0, fw c r))); iexact HR
    isplitr; · iapply (inv_at m ρ K (fw c r) (some (1, c))); iexact HR
    isplitl [Hp]; · iexact Hp
    isplitl [Hg]; · iexact Hg
    isplitl [HO]; · iexact HO
    isplitl [Ht1]; · iexact Ht1
    isplitr; · iapply (reached_at m ρ K c (some (0, fw c r))); iexact HR
    isplitl [Ht2]; · iexact Ht2
    iapply (reached_at m ρ K (fw c r) (some (1, c))); iexact HR
  iintro ⟨Hc, HO⟩
  iapply Hk
  isplitl [HO]
  · isplitr; · iexact HR
    iexists W; iexact HO
  · iexact Hc

/-! ## Waits on a transfer's cell -/

theorem dmaPay_0 (c j : Dev nD) : dmaPay m ρ 0 c j = pPts c j (part m ρ c) := if_pos rfl
theorem dmaPay_1 (c j : Dev nD) : dmaPay m ρ 1 c j = gPts c j (gath m ρ c) := by
  unfold dmaPay; rw [if_neg (by decide), if_pos rfl]
theorem dmaPay_2 (c j : Dev nD) : dmaPay m ρ 2 c j = hPts c (lent (turnF c j)) (chunk m ρ c) := by
  unfold dmaPay; rw [if_neg (by decide), if_neg (by decide), if_pos rfl]
theorem dmaPay_3 (c j : Dev nD) : dmaPay m ρ 3 c j = xPts c j (allChunks m ρ) := by
  unfold dmaPay; rw [if_neg (by decide), if_neg (by decide), if_neg (by decide)]

theorem credit_gB (c : Dev nD) (r : Fin 15) : (gB c r).view.dmaCredit = N := rfl
theorem credit_pF (c : Dev nD) (r : Fin 15) : (pF c r).view.dmaCredit = N := rfl
theorem credit_xB (c : Dev nD) (r : Fin 15) : (xB c r).view.dmaCredit = N := rfl

/-- The wait for a transfer's credit: the transfer's payload, and the cell closed at zero. -/
theorem wp_take (c : Dev nD) (k : Fin 4) (j : Dev nD) (hj : j ≠ c) (sem : DmaSem sig) (hs : sem = num k j)
    {sp sp' : Space} {s s' : Shape} {e e' : EltTy} {src : Memref sig .tc sp' s' e'} {dst : Memref sig .tc sp s e}
    {hsrc : src.view.WordExact} {hdst : dst.view.WordExact} (hN : dst.view.dmaCredit = N)
    {n : ℕ} (O : CellTallies nD τ sig Unit) (hO : Above n O) (hl : lvOf (some (some (k, j))) ≤ n) (Q : PUnit → sProp 𝕄) (p : KProg F) :
    iprop(Kept m ρ K c O ∗ cred (tallyAt (dCell k c j) () N) ∗ atPos ER (dCell k c j) 0 ∅ 0)
      ⊢ iprop((Kept m ρ K c O ∗ dmaPay m ρ k c j ∗ semVal (dCell k c j) 0 -∗ WP c p Q)
          -∗ WP c (.op (.waitDma2 sem src dst hsrc hdst) fun _ => p) Q) := by
  subst hs
  unfold Kept
  iintro ⟨⟨#HR, ⟨%W, HO⟩⟩, Hc, Hat⟩ Hk
  have hk : 0 + dst.view.dmaCredit = (Rd (F := F) m ρ).expect (dCell k c j) 0 := by rw [expect_dma m ρ k c j hj, hN, Nat.zero_add]
  have hw : records m ρ K ⊢ MayWait (c : Thread nD τ) (.dma (num k j)) () O :=
    (mayWait_kept m ρ K c (.dma (num k j)) O hO (by rw [cls_num]; exact hl))
  have hc : (cred (tallyAt (dCell k c j) () N) : sProp 𝕄) = cred (tallyAt (dCell k c j) () dst.view.dmaCredit) :=
    congrArg (fun n : ℕ => (cred (tallyAt (dCell k c j) () n) : sProp 𝕄)) hN.symm
  ihave Hc := (Entails.of_eq hc) $$ Hc
  iapply (Rounds.wp_wait_rest_token 𝒱₀ ER (Rd m ρ) (c : Thread nD τ) none (κ := K (c, some (k, j)))
      (wpE_waitDma2_eq 𝒱₀ (c : Thread nD τ) none Set.univ) (Set.mem_univ _) () (O := O) (W := W) (R := 0) (m := 0) (T := ∅)
      hk) $$ [Hc HO Hat]
  · isplitr; · iapply (inv_at m ρ K c (some (k, j))); iexact HR
    isplitl [Hc]; · iexact Hc
    isplitl [HO]; · iexact HO
    isplitr
    · iapply hw; iexact HR
    iexact Hat
  iintro ⟨HO, Hat, -, Hpay⟩
  ihave Hp := (Entails.of_eq (rest_dma m ρ k c j hj)) $$ Hpay
  imod (Rounds.cell_close ER (Rd m ρ) (Set.mem_univ (K (c, some (k, j)))) (fun h => h) (R := 0 + 1)
      (duties_later m ρ (dCell k c j))) $$ [Hat] with Hz
  · isplitr; · iapply (inv_at m ρ K c (some (k, j))); iexact HR
    iexact Hat
  iapply Hk
  isplitl [HO]
  · isplitr; · iexact HR
    iexists _; iexact HO
  isplitl [Hp] <;> iassumption

/-- A turn of the reduction's receive waits. -/
theorem step_recv1 (c : Dev nD) (Q : PUnit → sProp 𝕄) (r : Fin 15) (k : KProg F) :
    iprop(Kept m ρ K c (O2 c turns) ∗ (cred (tallyAt (dCell 1 c (bw c r)) () N) ∗ atPos ER (dCell 1 c (bw c r)) 0 ∅ 0))
      ⊢ iprop((Kept m ρ K c (O2 c turns) ∗ (gPts c (bw c r) (gath m ρ c) ∗ semVal (dCell 1 c (bw c r)) 0) -∗ WP c k Q) -∗ WP c (opRecv1 c r k) Q) := by
  rw [← dmaPay_1]
  exact wp_take m ρ K c 1 (bw c r) (bw_ne c r) _ (semB5_eq c r) (src := pZ) (dst := gB c r) (credit_gB c r) (n := 2) (O2 c turns) (above_O2 le_rfl c turns) (le_refl 2) Q k

/-- A turn of the send waits: the sources of both transfers back. -/
theorem step_done (c : Dev nD) (Q : PUnit → sProp 𝕄) (r : Fin 15) (k : KProg F) :
    iprop(Kept m ρ K c 0 ∗ ((cred (tallyAt (dCell 0 c (fw c r)) () N) ∗ atPos ER (dCell 0 c (fw c r)) 0 ∅ 0)
        ∗ (cred (tallyAt (dCell 2 c (fw c r)) () N) ∗ atPos ER (dCell 2 c (fw c r)) 0 ∅ 0)))
      ⊢ iprop((Kept m ρ K c 0 ∗ ((pPts c (fw c r) (part m ρ c) ∗ semVal (dCell 0 c (fw c r)) 0)
          ∗ (hPts c (lent r) (chunk m ρ c) ∗ semVal (dCell 2 c (fw c r)) 0)) -∗ WP c k Q) -∗ WP c (opDone c r k) Q) := by
  iintro ⟨HC, H0, H2⟩ Hk
  unfold opDone
  iapply (wp_take m ρ K c 0 (fw c r) (fw_ne c r) _ (semF4_eq c r) (src := gF c r) (dst := pF c r) (credit_pF c r) (n := 0) 0 above_zero (le_refl 0) Q _) $$ [HC H0]
  · isplitl [HC] <;> iassumption
  rw [dmaPay_0]
  iintro ⟨HC, H0⟩
  iapply (wp_take m ρ K c 2 (fw c r) (fw_ne c r) _ (semF6_eq c r) (src := xF c r) (dst := hM) rfl (n := 0) 0 above_zero (le_refl 0) Q _) $$ [HC H2]
  · isplitl [HC] <;> iassumption
  rw [dmaPay_2, turnF_fw]
  iintro ⟨HC, H2⟩
  iapply Hk
  isplitl [HC]; · iexact HC
  isplitl [H0] <;> iassumption

/-! ## The gather's sends -/

/-- The chunk landed at the device's rows is what the gather buffer is to hold there. -/
theorem landed2 (c d : Dev nD) (fd : Buf (Elt F) ((d : Thread nD τ).loc cc0_scratch3)) :
    xPts d c ((xO c).view.write (Elt F) fd ((hM : Memref sig .tc .vmem S32x512 .bf16).view.read (Elt F) (chunk m ρ c)) Finset.univ)
      = xPts d c (allChunks m ρ) := by
  unfold xPts
  refine pointsTo_congr fun i hi => ?_
  obtain ⟨x, rfl⟩ : ∃ x, i = rowOf c x := ⟨rowIn i, by rw [← mem_rows'.1 hi, rowOf_rowIn]⟩
  have h := View.write_emb_of_mem (Val := Elt F) (v := (xO c).view) fd
    ((hM : Memref sig .tc .vmem S32x512 .bf16).view.read (Elt F) (chunk m ρ c)) (Finset.mem_univ x)
  rw [xO_emb] at h
  refine h.trans ?_
  show (hM : Memref sig .tc .vmem S32x512 .bf16).view.read (Elt F) (chunk m ρ c) x = chunk m ρ (blockOf (rowOf c x)) (rowIn (rowOf c x))
  rw [rowIn_rowOf, blockOf_rowOf]; rfl

theorem hM_pts (c : Dev nD) (q : PosShare TreeShare) (f : Buf (Elt F) ((c : Thread nD τ).loc cc0_scratch2)) :
    hPts c q f = ((hM : Memref sig .tc .vmem S32x512 .bf16).view.loc (c : Thread nD τ) ↦[(hM : Memref sig .tc .vmem S32x512 .bf16).view.set]{q} f : sProp 𝕄) := by
  unfold hPts; simp only [Memref.view_whole, View.set_whole]

/-- The gather's transfer, its device and semaphores by their closed forms. -/
theorem wp_send2 (c : Dev nD) (r : Fin 15) (n : Dev nD) (hn : n = fw c r) (s : DmaSem sig) (hs : s = num 2 (fw c r))
    (t : DmaSem sig) (ht : t = num 3 c) {hsc : (xO c : Memref sig (Dev.tc n : Thread nD τ).2.kind .vmem S32x512 .bf16).view.ref.isScScratch = false}
    {hsrc : (hM : Memref sig .tc .vmem S32x512 .bf16).view.WordExact} {hdst : (xO c : Memref sig (Dev.tc n : Thread nD τ).2.kind .vmem S32x512 .bf16).view.WordExact}
    {hsem : DmaTarget.Typed .vmem (.dma t) (.remote (Dev.tc n : Thread nD τ) (xO c) (.dma s) hsc)}
    (Q : PUnit → sProp 𝕄) (k : KProg F) (O : CellTallies nD τ sig Unit) (W : Waits sig Unit)
    (fd : Buf (Elt F) ((fw c r : Thread nD τ).loc cc0_scratch3)) :
    iprop(cellInv ER (Rd m ρ) (K (c, some (2, fw c r))) (dCell 2 c (fw c r)) ∗ cellInv ER (Rd m ρ) (K (fw c r, some (3, c))) (dCell 3 (fw c r) c)
        ∗ hPts c (lent r) (chunk m ρ c) ∗ xPts (fw c r) c fd
        ∗ owes (c : Thread nD τ) (O + tallyAt (dCell 3 (fw c r) c) () N) W
        ∗ dutyTok ER (dCell 2 c (fw c r)) 0 (fw c r) ∗ reached ER (dCell 2 c (fw c r)) 0
        ∗ dutyTok ER (dCell 3 (fw c r) c) 0 c ∗ reached ER (dCell 3 (fw c r) c) 0)
      ⊢ iprop((cred (tallyAt (dCell 2 c (fw c r)) () N) ∗ owes (c : Thread nD τ) O W -∗ WP c k Q)
          -∗ WP c (.op (.enqueueDma hM (.remote (Dev.tc n : Thread nD τ) (xO c) (.dma s) hsc) (.dma t) hsrc hdst hsem) fun _ => k) Q) := by
  subst hn hs ht
  have h₁ : fw c r ∈ (Rd (F := F) m ρ).duties (dCell 2 c (fw c r)) 0 := by rw [duties_dma m ρ 2 c _ (fw_ne c r)]; exact Finset.mem_singleton_self _
  have h₂ : c ∈ (Rd (F := F) m ρ).duties (dCell 3 (fw c r) c) 0 := by rw [duties_dma m ρ 3 _ c (fw_ne c r).symm]; exact Finset.mem_singleton_self _
  have p₁ : ((hM : Memref sig .tc .vmem S32x512 .bf16).view.loc (c : Thread nD τ) ↦[(hM : Memref sig .tc .vmem S32x512 .bf16).view.set]{lent r} chunk m ρ c : sProp 𝕄)
      ⊢ (Rd (F := F) m ρ).payload (dCell 2 c (fw c r)) 0 (fw c r) := by
    rw [payload_dma, dmaPay_2, turnF_fw, ← hM_pts]
  have p₂ : ((xO c).view.loc (fw c r : Thread nD τ) ↦[(xO c).view.set]{fullShare}
        ((xO c).view.write (Elt F) fd ((hM : Memref sig .tc .vmem S32x512 .bf16).view.read (Elt F) (chunk m ρ c)) Finset.univ) : sProp 𝕄)
      ⊢ (Rd (F := F) m ρ).payload (dCell 3 (fw c r) c) 0 c := by
    rw [payload_dma, dmaPay_3, ← xO_pts, landed2]
  rw [hM_pts, xO_pts]
  exact Rounds.wp_send_pointsTo 𝒱₀ ER (Rd m ρ) (c : Thread nD τ) none (κ₁ := K (c, some (2, fw c r))) (κ₂ := K (fw c r, some (3, c)))
    (c' := (fw c r : Thread nD τ)) (src := hM) (dst := xO c) (hsrc := hsrc) (hdst := hdst) (hsem := hsem) (hsc := hsc)
    h₁ h₂ () () N rfl (amount_dma m ρ 2 c _ _) (amount_dma m ρ 3 _ c _) O rfl (W := W) p₁ p₂ (Q := Q) (Es := Set.univ) (k := fun _ => k) (defs := defs₀ (F := F))

/-- A turn of the gather's sends. -/
theorem step_send2 (c : Dev nD) (Q : PUnit → sProp 𝕄) (r : Fin 15) (l : List (Fin 15)) (k : KProg F) :
    iprop(Kept m ρ K c (O2 c (r :: l))
        ∗ (hPts c (lent r) (chunk m ρ c) ∗ (∃ f, xPts (fw c r) c f)
          ∗ dutyTok ER (dCell 2 c (fw c r)) 0 (fw c r) ∗ dutyTok ER (dCell 3 (fw c r) c) 0 c))
      ⊢ iprop((Kept m ρ K c (O2 c l) ∗ cred (tallyAt (dCell 2 c (fw c r)) () N) -∗ WP c k Q) -∗ WP c (opSend2 c r k) Q) := by
  unfold Kept
  rw [show O2 c (r :: l) = O2 c l + tallyAt (dCell 3 (fw c r) c) () N from rfl]
  iintro ⟨⟨#HR, ⟨%W, HO⟩⟩, Hp, ⟨%fd, Hg⟩, Ht1, Ht2⟩ Hk
  unfold opSend2
  iapply (wp_send2 m ρ K c r _ (dev2_eq c r) _ (semF6_eq c r) _ (semO7_eq c) Q k (O2 c l) W fd) $$ [HO Hp Hg Ht1 Ht2]
  · isplitr; · iapply (inv_at m ρ K c (some (2, fw c r))); iexact HR
    isplitr; · iapply (inv_at m ρ K (fw c r) (some (3, c))); iexact HR
    isplitl [Hp]; · iexact Hp
    isplitl [Hg]; · iexact Hg
    isplitl [HO]; · iexact HO
    isplitl [Ht1]; · iexact Ht1
    isplitr; · iapply (reached_at m ρ K c (some (2, fw c r))); iexact HR
    isplitl [Ht2]; · iexact Ht2
    iapply (reached_at m ρ K (fw c r) (some (3, c))); iexact HR
  iintro ⟨Hc, HO⟩
  iapply Hk
  isplitl [HO]
  · isplitr; · iexact HR
    iexists W; iexact HO
  · iexact Hc

end Cert.ReduceGather

end
-- ==== Proof.Stages.lean ====
/-
# The kernel's stages

The loads and stores of a device's own rows and slot, the loops as wholes, and each stretch of the kernel between two loops.
-/
module

public import proofs.«01_k».proof.Proof.Steps

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Loads and stores through rows and slots -/

theorem oM_emb {off : Fin 2 → ℕ} {inb} (j : Dev nD) (h : off = ![32 * j.val, 0]) (x : S32x512.Idx) :
    ((oM : Memref sig .tc .vmem S512x512 .f32).access (Rect.unit (s := S512x512) off S32x512.size inb) : View sig .tc _ _ _).emb x = rowOf j x := by
  have e := emb_rows (inb := inb) j h x
  exact e

/-- Rows `j` of the result, stored. -/
theorem out_stored {off : Fin 2 → ℕ} {inb} (j : Dev nD) (h : off = ![32 * j.val, 0])
    (g : (cc0_stg2_0 : Ref sig .tc).ty.Contents (Elt F)) (w : S32x512.Idx → Elt F .f32) (i : S512x512.Idx) :
    (((oM : Memref sig .tc .vmem S512x512 .f32).access (Rect.unit (s := S512x512) off S32x512.size inb) : View sig .tc _ _ _).write (Elt F) g w Finset.univ) i
      = if blockOf i = j then w (rowIn i) else g i := by
  by_cases hi : blockOf i = j
  · obtain ⟨x, rfl⟩ : ∃ x, i = rowOf j x := ⟨rowIn i, by rw [← hi, rowOf_rowIn]⟩
    have hw := View.write_emb_of_mem (Val := Elt F)
      (v := ((oM : Memref sig .tc .vmem S512x512 .f32).access (Rect.unit (s := S512x512) off S32x512.size inb) : View sig .tc _ _ _)) g w
      (M := Finset.univ) (x := x) (Finset.mem_univ _)
    rw [if_pos hi, rowIn_rowOf]
    exact (congrArg _ (oM_emb (inb := inb) j h x).symm).trans hw
  · rw [if_neg hi]
    refine View.write_of_not_mem (Val := Elt F)
      (v := ((oM : Memref sig .tc .vmem S512x512 .f32).access (Rect.unit (s := S512x512) off S32x512.size inb) : View sig .tc _ _ _)) g w Finset.univ
      (fun hm => hi ?_)
    obtain ⟨x, -, hx⟩ := Finset.mem_map.1 hm
    have he : i = rowOf j x := hx.symm.trans (oM_emb (inb := inb) j h x)
    rw [he, blockOf_rowOf]

/-- The slot of the device's own index, stored. -/
theorem slot_stored (c : Dev nD) (g : (cc0_scratch1 : Ref sig .tc).ty.Contents (Elt F)) (w : S1x32x512.Idx → Elt F .bf16)
    (h : ∀ x, w x = part m ρ c (rowOf c (ix2 (x 1) (x 2)))) :
    gPts c c (((gM : Memref sig .tc .vmem S16x32x512 .bf16).access (rS c) : View sig .tc _ _ _).write (Elt F) g w Finset.univ)
      = gPts c c (gath m ρ c) := by
  unfold gPts
  refine pointsTo_congr fun i hi => ?_
  obtain ⟨x, rfl⟩ : ∃ x, i = slotOf c x := ⟨slotIn i, by rw [← mem_slot'.1 hi, slotOf_slotIn]⟩
  have hw := View.write_emb_of_mem (Val := Elt F)
    (v := ((gM : Memref sig .tc .vmem S16x32x512 .bf16).access (rS c) : View sig .tc _ _ _)) g w
    (Finset.mem_univ (ix3 (0 : Fin 1) (x 0) (x 1)))
  have hx : x = ix2 (x 0) (x 1) := by refine (funext fun a => ?_); fin_cases a <;> rfl
  have he : ((gM : Memref sig .tc .vmem S16x32x512 .bf16).access (rS c) : View sig .tc _ _ _).emb (ix3 (0 : Fin 1) (x 0) (x 1)) = slotOf c x :=
    (emb_slot (inb := k0_off6_inb c) _ (k0_off6_eq c) _).trans (congrArg (slotOf c) hx.symm)
  refine ((congrArg _ he.symm).trans hw).trans ?_
  refine (h _).trans ?_
  show part m ρ c (rowOf c (ix2 (x 0) (x 1))) = part m ρ (slotAt (slotOf c x)) (rowOf c (slotIn (slotOf c x)))
  rw [slotIn_slotOf]
  exact congrArg (fun y => part m ρ c (rowOf c y)) hx.symm

/-- The device's own rows of the partial product, loaded. -/
theorem read_own (c : Dev nD) (f : (cc0_scratch0 : Ref sig .tc).ty.Contents (Elt F)) :
    (pM : Memref sig .tc .vmem S512x512 .bf16).view.readAt (Elt F) (rO c).toLoadRect f = fun x : S32x512.Idx => f (rowOf c x) := by
  funext x
  exact congrArg f (emb_rows (inb := k0_off5_inb c) _ (k0_off5_eq c) x)
/-- The rows of a peer of the gather buffer, loaded. -/
theorem read_peer (c : Dev nD) (r : Fin 15) (f : (cc0_scratch3 : Ref sig .tc).ty.Contents (Elt F)) :
    (xM : Memref sig .tc .vmem S512x512 .bf16).view.readAt (Elt F) (rB c r).toLoadRect f = fun x : S32x512.Idx => f (rowOf (bw c r) x) := by
  funext x
  exact congrArg f (emb_rows (inb := k0_off11_inb c r) _ (off11_eq c r) x)

theorem on_pM (r : Rect S512x512) : (pM : Memref sig .tc .vmem S512x512 .bf16).view.setOn r.toLoadRect.set = r.set := by
  ext i; constructor
  · intro h; obtain ⟨x, hx, rfl⟩ := Finset.mem_map.1 h; exact hx
  · intro h; exact Finset.mem_map.2 ⟨i, h, rfl⟩
theorem on_xM (r : Rect S512x512) : (xM : Memref sig .tc .vmem S512x512 .bf16).view.setOn r.toLoadRect.set = r.set := on_pM r
theorem on_gM (r : Rect S16x32x512) : (gM : Memref sig .tc .vmem S16x32x512 .bf16).view.setOn r.toLoadRect.set = r.set := by
  ext i; constructor
  · intro h; obtain ⟨x, hx, rfl⟩ := Finset.mem_map.1 h; exact hx
  · intro h; exact Finset.mem_map.2 ⟨i, h, rfl⟩
theorem acc_gM (c : Dev nD) : ((gM : Memref sig .tc .vmem S16x32x512 .bf16).access (rS c) : View sig .tc _ _ _).setOn Finset.univ = slot c :=
  (View.set_slice_whole _ _).trans (rS_set c)

/-! ## The gather's receives -/

/-- The result staged on `c`. -/
abbrev oPts (c : Dev nD) (g : Buf (Elt F) ((c : Thread nD τ).loc cc0_stg2_0)) : sProp 𝕄 := ((c : Thread nD τ).loc cc0_stg2_0) ↦{fullShare} g

/-- The result staged on `c`, right off the blocks of the turns `l`. -/
def oRight (c : Dev nD) (l : List (Fin 15)) : sProp 𝕄 :=
  iprop(∃ g, ⌜∀ i : S512x512.Idx, (∀ r ∈ l, blockOf i ≠ bw c r) → g i = outAt m ρ c i⌝ ∗ oPts c g)

/-- A turn of the gather's receives: the peer's chunk lands and is widened into its rows of the result. -/
theorem step_recv2 (c : Dev nD) (Q : PUnit → sProp 𝕄) (r : Fin 15) (l : List (Fin 15)) (k : KProg F) :
    iprop((Kept m ρ K c 0 ∗ oRight m ρ c (r :: l)) ∗ (cred (tallyAt (dCell 3 c (bw c r)) () N) ∗ atPos ER (dCell 3 c (bw c r)) 0 ∅ 0))
      ⊢ iprop(((Kept m ρ K c 0 ∗ oRight m ρ c l) ∗ (xPts c (bw c r) (allChunks m ρ) ∗ semVal (dCell 3 c (bw c r)) 0) -∗ WP c k Q)
        -∗ WP c (opRecv2 c r k) Q) := by
  unfold oRight
  iintro ⟨⟨HC, ⟨%g, %hg, Ho⟩⟩, H3⟩ Hk
  unfold opRecv2
  iapply (wp_take m ρ K c 3 (bw c r) (bw_ne c r) _ (semB7_eq c r) (src := hM) (dst := xB c r) (credit_xB c r) (n := 3) 0 above_zero (le_refl 3) Q _) $$ [HC H3]
  · isplitl [HC] <;> iassumption
  rw [dmaPay_3]
  iintro ⟨HC, Hx, Hz⟩
  unfold xPts
  iapply (wp_load 𝒱₀ (c : Thread nD τ) none Set.univ (m := xM) (by rw [on_xM, rB_set])) $$ Hx; iintro Hx
  rw [read_peer]
  iapply (wp_load 𝒱₀ (c : Thread nD τ) none Set.univ (m := oM) (Finset.subset_univ _)) $$ Ho; iintro Ho
  iapply (wp_store 𝒱₀ (c : Thread nD τ) none Set.univ (m := oM) (r := rB c r) (Mk := Finset.univ) (Finset.subset_univ _)) $$ Ho; iintro Ho
  iapply Hk
  isplitl [HC Ho]
  · isplitl [HC]; · iexact HC
    iexists _
    isplitr
    rotate_left
    · iexact Ho
    · ipureintro
      intro i hi
      rw [out_stored (bw c r) (off11_eq c r)]
      split
      next hb =>
        unfold outAt
        rw [if_neg (by rw [hb]; exact bw_ne c r), hb]
        refine congrFun (congrArg k0_pay5 (funext fun x => ?_)) _
        show chunk m ρ (blockOf (rowOf (bw c r) x)) (rowIn (rowOf (bw c r) x)) = _
        rw [blockOf_rowOf, rowIn_rowOf]
      next hb =>
        exact hg i fun r' hr' => by
          rcases List.mem_cons.1 hr' with rfl | hr'
          · exact hb
          · exact hi r' hr'
  · isplitl [Hx] <;> iassumption

end Cert.ReduceGather

end
-- ==== Proof.Body.lean ====
/-
# The kernel's body

The buffers cut into their pieces and put together again, the five stretches of the kernel one after another, and the
library's obligation on the body.
-/
module

public import proofs.«01_k».proof.Proof.Stages

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Lists of turns -/

/-- Propositions that entail each other are equal. -/
theorem both {P Q : sProp 𝕄} (h₁ : P ⊢ Q) (h₂ : Q ⊢ P) : P = Q := BI.Entails.antisymm h₁ h₂

theorem mem_turns (r : Fin 15) : r ∈ turns := by revert r; decide

theorem bigSepL_sep (l : List (Fin 15)) (Φ Ψ : Fin 15 → sProp 𝕄) :
    (bigSepL l fun r => iprop(Φ r ∗ Ψ r)) = iprop(bigSepL l Φ ∗ bigSepL l Ψ) := by
  induction l with
  | nil => rw [bigSepL_nil, bigSepL_nil, bigSepL_nil]; exact (equiv_iff.mp emp_sep).symm
  | cons r l ih =>
    rw [bigSepL_cons', bigSepL_cons', bigSepL_cons', ih]
    refine both ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

/-! ## Buffers cut into pieces -/

abbrev pFull (c : Dev nD) (f : Buf (Elt F) ((c : Thread nD τ).loc cc0_scratch0)) : sProp 𝕄 := ((c : Thread nD τ).loc cc0_scratch0) ↦{fullShare} f
abbrev gFull (c : Dev nD) (f : Buf (Elt F) ((c : Thread nD τ).loc cc0_scratch1)) : sProp 𝕄 := ((c : Thread nD τ).loc cc0_scratch1) ↦{fullShare} f
abbrev xFull (c : Dev nD) (f : Buf (Elt F) ((c : Thread nD τ).loc cc0_scratch3)) : sProp 𝕄 := ((c : Thread nD τ).loc cc0_scratch3) ↦{fullShare} f

theorem p_cut (c : Dev nD) (f : Buf (Elt F) ((c : Thread nD τ).loc cc0_scratch0)) : pFull c f = bigSep Finset.univ fun j => pPts c j f := by
  unfold pFull pPts
  rw [rows_cover]
  exact pointsTo_biUnion _ _ fun j _ k _ h => rows_disjoint j k h
theorem g_cut (c : Dev nD) (f : Buf (Elt F) ((c : Thread nD τ).loc cc0_scratch1)) : gFull c f = bigSep Finset.univ fun j => gPts c j f := by
  unfold gFull gPts
  rw [slot_cover]
  exact pointsTo_biUnion _ _ fun j _ k _ h => slot_disjoint j k h
theorem x_cut (c : Dev nD) (f : Buf (Elt F) ((c : Thread nD τ).loc cc0_scratch3)) : xFull c f = bigSep Finset.univ fun j => xPts c j f := by
  unfold xFull xPts
  rw [rows_cover]
  exact pointsTo_biUnion _ _ fun j _ k _ h => rows_disjoint j k h

/-- The gather buffer put together from rows holding anything. -/
theorem x_join (c : Dev nD) (fs : Dev nD → Buf (Elt F) ((c : Thread nD τ).loc cc0_scratch3)) :
    (bigSep Finset.univ fun j => xPts c j (fs j)) ⊢ iprop(∃ f, xFull c f) := by
  unfold xPts
  have h := pointsTo_biUnion_join (nD := nD) (τ := τ) (sig := sig) (Val := Elt F) (Ix := Unit) (Name := ℕ) (U := UU) (Lvl := ℕ)
    (ℓ := (c : Thread nD τ).loc cc0_scratch3) (q := fullShare) (T := Dev nD) Finset.univ rows fs (fs c) (fun j _ k _ h => rows_disjoint j k h)
  refine BIBase.Entails.trans h ?_
  unfold xFull
  rw [show (Finset.univ.biUnion rows : Finset S512x512.Idx) = Finset.univ from rows_cover.symm]
  iintro ⟨%g, -, H⟩
  iexists g; iexact H

/-- The chunk's shares: one for each turn of `l`, and what is left. -/
theorem h_shares (c : Dev nD) (f : Buf (Elt F) ((c : Thread nD τ).loc cc0_scratch2)) : ∀ (l : List (Fin 15)) (n : ℕ),
    l.map Fin.val = List.range' n l.length →
      hPts c (rem n) f = iprop((bigSepL l fun r => hPts c (lent r) f) ∗ hPts c (rem (n + l.length)) f)
  | [], n, _ => by rw [bigSepL_nil]; exact (equiv_iff.mp emp_sep).symm
  | r :: l, n, h => by
    rw [List.map_cons, List.length_cons, List.range'_succ, List.cons.injEq] at h
    obtain ⟨hr, hl⟩ := h
    subst hr
    have h1 : hPts c (rem r.val) f = iprop(hPts c (lent r) f ∗ hPts c (rem (r.val + 1)) f) :=
      both (pointsTo_share (PosShare.mem_left_op_right (rem r.val))).1 (pointsTo_share (PosShare.mem_left_op_right (rem r.val))).2
    rw [h1, h_shares c f l (r.val + 1) hl, bigSepL_cons', List.length_cons, show r.val + 1 + l.length = r.val + (l.length + 1) by omega]
    exact both Laws.sep_assoc.2 Laws.sep_assoc.1

theorem h_lent (c : Dev nD) (f : Buf (Elt F) ((c : Thread nD τ).loc cc0_scratch2)) :
    hPts c fullShare f = iprop((bigSepL turns fun r => hPts c (lent r) f) ∗ hPts c (rem 15) f) :=
  h_shares c f turns 0 (by decide)

/-! ## The barrier's signals -/

/-- From the start to the product: the barrier's signals, with the peers' slots and rows. -/
theorem stage_signals (c : Dev nD) (Q : PUnit → sProp 𝕄) (k : KProg F) :
    iprop(Kept m ρ K c (O₀ c) ∗ (bigSepL turns fun r => dutyTok ER (barCell (fw c r)) 0 c) ∗ (∃ f, gFull c f) ∗ ∃ f, xFull c f)
      ⊢ iprop((Kept m ρ K c (O2 c turns + O1 c turns) ∗ (∃ f, gPts c c f) ∗ (∃ f, xPts c c f) -∗ WP c k Q) -∗ WP c (loop (opBar c) k turns) Q) := by
  iintro ⟨HC, Ht, ⟨%f, Hg⟩, ⟨%f', Hx⟩⟩ Hk
  have hg : gFull c f = iprop(gPts c c f ∗ bigSepL turns fun r => gPts c (fw c r) f) := by rw [g_cut, self_peers c, peers_fw]
  have hx : xFull c f' = iprop(xPts c c f' ∗ bigSepL turns fun r => xPts c (fw c r) f') := by rw [x_cut, self_peers c, peers_fw]
  ihave Hg := (Entails.of_eq hg) $$ Hg
  ihave Hx := (Entails.of_eq hx) $$ Hx
  icases Hg with ⟨Hg0, Hg⟩
  icases Hx with ⟨Hx0, Hx⟩
  iapply (wp_loop (opBar c) (fun l => Kept m ρ K c (O2 c turns + O1 c turns + OB c l)) _ (fun _ => iprop(emp))
    (fun r l k => step_bar m ρ K c Q (O2 c turns + O1 c turns) r l k) turns k) $$ [HC Ht Hg Hx]
  · isplitl [HC]; · iexact HC
    rw [bigSepL_sep, bigSepL_sep]
    isplitl [Ht]; · iexact Ht
    isplitl [Hg]
    · iapply (bigSepL_mono (M := 𝕄) (l := turns) (Φ := fun r => gPts c (fw c r) f) (Ψ := fun r => iprop(∃ f, gPts c (fw c r) f)) fun r _ => by
        iintro H; iexists f; iexact H)
      iexact Hg
    · iapply (bigSepL_mono (M := 𝕄) (l := turns) (Φ := fun r => xPts c (fw c r) f') (Ψ := fun r => iprop(∃ f, xPts c (fw c r) f)) fun r _ => by
        iintro H; iexists f'; iexact H)
      iexact Hx
  rw [show OB c [] = 0 from rfl, add_zero]
  iintro ⟨HC, -⟩
  iapply Hk
  isplitl [HC]; · iexact HC
  isplitl [Hg0]
  · iexists f; iexact Hg0
  · iexists f'; iexact Hx0

/-! ## The product and the reduction's sends -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_a (f : (cc0_stg0_0 : Ref sig .tc).ty.Contents (Elt F)) : (aM : Memref sig .tc .vmem S512x256 .bf16).view.readAt (Elt F) rA.toLoadRect f = f :=
  Memref.readAt_unit_zero (Elt F) cc0_stg0_0 hz2 _ f
theorem read_b (f : (cc0_stg1_0 : Ref sig .tc).ty.Contents (Elt F)) : (bM : Memref sig .tc .vmem S256x512 .bf16).view.readAt (Elt F) rBb.toLoadRect f = f :=
  Memref.readAt_unit_zero (Elt F) cc0_stg1_0 hz2 _ f
theorem read_g (f : (cc0_scratch1 : Ref sig .tc).ty.Contents (Elt F)) : (gM : Memref sig .tc .vmem S16x32x512 .bf16).view.readAt (Elt F) rG.toLoadRect f = f :=
  Memref.readAt_unit_zero (Elt F) cc0_scratch1 hz3 _ f
theorem write_p (f w : (cc0_scratch0 : Ref sig .tc).ty.Contents (Elt F)) :
    ((pM : Memref sig .tc .vmem S512x512 .bf16).access rP : View sig .tc _ _ _).write (Elt F) f w Finset.univ = w :=
  Memref.write_access_unit_zero_univ (Elt F) cc0_scratch0 hz2 _ f w
theorem write_h (f w : (cc0_scratch2 : Ref sig .tc).ty.Contents (Elt F)) :
    ((hM : Memref sig .tc .vmem S32x512 .bf16).access rH : View sig .tc _ _ _).write (Elt F) f w Finset.univ = w :=
  Memref.write_access_unit_zero_univ (Elt F) cc0_scratch2 hz2 _ f w

/-- The blocks of `A` and `B` staged on `c`. -/
abbrev aPts (c : Dev nD) : sProp 𝕄 := ((c : Thread nD τ).loc cc0_stg0_0) ↦{fullShare} (argA m ρ c)
abbrev bPts (c : Dev nD) : sProp 𝕄 := ((c : Thread nD τ).loc cc0_stg1_0) ↦{fullShare} (argB m ρ c)

/-- The barrier's wait: a slot and rows of every peer, and the cell closed at zero. -/
theorem wp_barrier (c : Dev nD) (Q : PUnit → sProp 𝕄) (p : KProg F) :
    iprop(Kept m ρ K c (O2 c turns + O1 c turns) ∗ cred (tallyAt (barCell c) () 15) ∗ atPos ER (barCell c) 0 ∅ 0)
      ⊢ iprop((Kept m ρ K c (O2 c turns + O1 c turns) ∗ (bigSepL turns fun r => iprop(∃ f, gPts (F := F) (fw c r) c f))
            ∗ (bigSepL turns fun r => iprop(∃ f, xPts (F := F) (fw c r) c f)) ∗ semVal (barCell c) 0 -∗ WP c p Q)
          -∗ WP c (.op (.semWait barS (15#32).toNat) fun _ => p) Q) := by
  unfold Kept
  iintro ⟨⟨#HR, ⟨%W, HO⟩⟩, Hc, Hat⟩ Hk
  have hw : records m ρ K ⊢ MayWait (c : Thread nD τ) (.reg barS) () (O2 c turns + O1 c turns) :=
    mayWait_kept m ρ K c (.reg barS) (n := 1) _ (above_add (above_O2 (by decide) c _) (above_O1 le_rfl c _)) (by rw [cls_bar]; exact le_refl 1)
  iapply (Rounds.wp_wait_rest_token 𝒱₀ ER (Rd m ρ) (c : Thread nD τ) none (κ := K (c, none))
      (wpE_semWait_eq 𝒱₀ (c : Thread nD τ) none Set.univ) (Set.mem_univ _) () (O := O2 c turns + O1 c turns) (W := W) (R := 0) (m := 0) (T := ∅)
      ((Nat.zero_add _).trans (expect_bar m ρ c).symm)) $$ [Hc HO Hat]
  · isplitr; · iapply (inv_at m ρ K c none); iexact HR
    isplitl [Hc]; · iexact Hc
    isplitl [HO]; · iexact HO
    isplitr; · iapply hw; iexact HR
    iexact Hat
  iintro ⟨HO, Hat, -, Hpay⟩
  have hp : (bigSep (Finset.univ.erase c) fun p => barPay (F := F) c p)
      = iprop((bigSepL turns fun r => iprop(∃ f, gPts (F := F) (fw c r) c f)) ∗ (bigSepL turns fun r => iprop(∃ f, xPts (F := F) (fw c r) c f))) := by
    rw [peers_fw, ← bigSepL_sep]; rfl
  ihave Hp := (Entails.of_eq ((rest_bar m ρ c).trans hp)) $$ Hpay
  icases Hp with ⟨Hg, Hx⟩
  imod (Rounds.cell_close ER (Rd m ρ) (Set.mem_univ (K (c, none))) (fun h => h) (R := 0 + 1)
      (duties_later m ρ (barCell c))) $$ [Hat] with Hz
  · isplitr; · iapply (inv_at m ρ K c none); iexact HR
    iexact Hat
  iapply Hk
  isplitl [HO]
  · isplitr; · iexact HR
    iexists _; iexact HO
  isplitl [Hg]; · iexact Hg
  isplitl [Hx] <;> iassumption

/-- From the product to the end of the reduction's sends. -/
theorem stage_product (c : Dev nD) (Q : PUnit → sProp 𝕄) :
    iprop((Kept m ρ K c (O2 c turns + O1 c turns) ∗ cred (tallyAt (barCell c) () 15) ∗ atPos ER (barCell c) 0 ∅ 0)
        ∗ (aPts m ρ c ∗ bPts m ρ c ∗ ∃ f, pFull c f)
        ∗ (bigSepL turns fun r => dutyTok ER (dCell 0 c (fw c r)) 0 (fw c r)) ∗ (bigSepL turns fun r => dutyTok ER (dCell 1 (fw c r) c) 0 c))
      ⊢ iprop((Kept m ρ K c (O2 c turns) ∗ (aPts m ρ c ∗ bPts m ρ c ∗ pPts c c (part m ρ c))
            ∗ (bigSepL turns fun r => iprop(∃ f, xPts (F := F) (fw c r) c f)) ∗ semVal (barCell c) 0
            ∗ (bigSepL turns fun r => cred (tallyAt (dCell 0 c (fw c r)) () N)) -∗ WP c (prog2 c) Q)
          -∗ WP c (prog1 c) Q) := by
  iintro ⟨HC, ⟨Ha, Hb, ⟨%f, Hp⟩⟩, Ht0, Ht1⟩ Hk
  unfold prog1
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := pM) (Finset.subset_univ _)) $$ Hp; iintro Hp
  iapply (wp_store 𝒱₀ (c : Thread nD τ) none Set.univ (m := pM) (r := rP) (Mk := Finset.univ) (Finset.subset_univ _)) $$ Hp; iintro Hp
  rw [write_p]
  iapply (wp_barrier m ρ K c Q _) $$ HC
  iintro ⟨HC, Hg, Hx, Hz⟩
  have hp' : pFull c (part m ρ c) = iprop(pPts c c (part m ρ c) ∗ bigSepL turns fun r => pPts c (fw c r) (part m ρ c)) := by
    rw [p_cut, self_peers c, peers_fw]
  have hp : (View.loc (c : Thread nD τ) ((pM : Memref sig .tc .vmem S512x512 .bf16).access rP) ↦{fullShare} (k0_pay1 (argA m ρ c) (argB m ρ c)) : sProp 𝕄)
      = iprop(pPts c c (part m ρ c) ∗ bigSepL turns fun r => pPts c (fw c r) (part m ρ c)) := hp'
  ihave Hp := (Entails.of_eq hp) $$ Hp
  icases Hp with ⟨Hp0, Hp⟩
  iapply (wp_loop (opSend1 c) (fun l => Kept m ρ K c (O2 c turns + O1 c l)) _ (fun r => cred (tallyAt (dCell 0 c (fw c r)) () N))
    (fun r l k => step_send1 m ρ K c Q (O2 c turns) r l k) turns (prog2 c)) $$ [HC Hp Hg Ht0 Ht1]
  · isplitl [HC]; · iexact HC
    rw [bigSepL_sep, bigSepL_sep, bigSepL_sep]
    isplitl [Hp]; · iexact Hp
    isplitl [Hg]; · iexact Hg
    isplitl [Ht0] <;> iassumption
  rw [show O1 c [] = 0 from rfl, add_zero]
  iintro ⟨HC, Hc⟩
  iapply Hk
  isplitl [HC]; · iexact HC
  isplitl [Ha Hb Hp0]
  · isplitl [Ha]; · iexact Ha
    isplitl [Hb] <;> iassumption
  isplitl [Hx]; · iexact Hx
  isplitl [Hz] <;> iassumption

/-! ## The reduction's receives -/

/-- The widened own rows are the product's. -/
theorem pay2_own (c : Dev nD) (f : (cc0_scratch0 : Ref sig .tc).ty.Contents (Elt F)) (x : S1x32x512.Idx) :
    k0_pay2 (fun y : S32x512.Idx => f (rowOf c y)) x = f (rowOf c (ix2 (x 1) (x 2))) := by
  refine Eq.trans (shapeCast_addUnit_apply ![32, 512] (fun y : S32x512.Idx => f (rowOf c y)) shapeCasts_S32x512_S1x32x512 x) ?_
  refine congrArg (fun y : S32x512.Idx => f (rowOf c y)) (funext fun a => ?_)
  fin_cases a <;> rfl

/-- From the device's own slot to the end of the reduction's receives. -/
theorem stage_gathered (c : Dev nD) (Q : PUnit → sProp 𝕄) :
    iprop(Kept m ρ K c (O2 c turns) ∗ pPts c c (part m ρ c) ∗ (∃ f, gPts c c f)
        ∗ (bigSepL turns fun r => cred (tallyAt (dCell 1 c (bw c r)) () N)) ∗ (bigSepL turns fun r => atPos ER (dCell 1 c (bw c r)) 0 ∅ 0))
      ⊢ iprop((Kept m ρ K c (O2 c turns) ∗ pPts c c (part m ρ c) ∗ gFull c (gath m ρ c)
            ∗ (bigSepL turns fun r => semVal (dCell 1 c (bw c r)) 0) -∗ WP c (prog3 c) Q)
          -∗ WP c (prog2 c) Q) := by
  iintro ⟨HC, Hp, ⟨%f, Hg⟩, Hc, Hat⟩ Hk
  unfold prog2
  unfold pPts gPts
  iapply (wp_load 𝒱₀ (c : Thread nD τ) none Set.univ (m := pM) (by rw [on_pM, rO_set])) $$ Hp; iintro Hp
  rw [read_own]
  iapply (wp_load 𝒱₀ (c : Thread nD τ) none Set.univ (m := gM) (by rw [on_gM, rS_set])) $$ Hg; iintro Hg
  iapply (wp_store 𝒱₀ (c : Thread nD τ) none Set.univ (m := gM) (r := rS c) (Mk := Finset.univ) (by rw [acc_gM])) $$ Hg; iintro Hg
  have hg : (View.loc (c : Thread nD τ) ((gM : Memref sig .tc .vmem S16x32x512 .bf16).access (rS c)) ↦[slot c]{fullShare}
        (((gM : Memref sig .tc .vmem S16x32x512 .bf16).access (rS c) : View sig .tc _ _ _).write (Elt F) f
          (k0_pay2 fun y : S32x512.Idx => part m ρ c (rowOf c y)) Finset.univ) : sProp 𝕄)
      = gPts c c (gath m ρ c) := slot_stored m ρ c f (k0_pay2 fun y : S32x512.Idx => part m ρ c (rowOf c y)) (pay2_own c (part m ρ c))
  ihave Hg := (Entails.of_eq hg) $$ Hg
  iapply (wp_loop (opRecv1 c) (fun l => Kept m ρ K c (O2 c turns)) _ _
    (fun r l k => step_recv1 m ρ K c Q r k) turns (prog3 c)) $$ [HC Hc Hat]
  · isplitl [HC]; · iexact HC
    rw [bigSepL_sep]
    isplitl [Hc] <;> iassumption
  rw [bigSepL_sep]
  iintro ⟨HC, Hgs, Hz⟩
  iapply Hk
  isplitl [HC]; · iexact HC
  isplitl [Hp]; · iexact Hp
  isplitl [Hg Hgs]
  · rw [g_cut, self_peers c, peers_bw]
    isplitl [Hg] <;> iassumption
  iexact Hz

/-! ## The reduction -/

/-- The reduction: the chunk, and the device's own rows of the result. -/
theorem stage_reduce (c : Dev nD) (Q : PUnit → sProp 𝕄) :
    iprop(gFull c (gath m ρ c) ∗ (∃ f, hPts c fullShare f) ∗ ∃ g, oPts c g)
      ⊢ iprop((gFull c (gath m ρ c) ∗ hPts c fullShare (chunk m ρ c) ∗ oRight m ρ c turns -∗ WP c (prog4 c) Q) -∗ WP c (prog3 c) Q) := by
  iintro ⟨Hg, ⟨%f, Hh⟩, ⟨%g, Ho⟩⟩ Hk
  unfold prog3 hPts
  iapply (wp_load 𝒱₀ (c : Thread nD τ) none Set.univ (m := gM) (Finset.subset_univ _)) $$ Hg; iintro Hg
  rw [read_g]
  iapply (wp_load 𝒱₀ (c : Thread nD τ) none Set.univ (m := hM) (Finset.subset_univ _)) $$ Hh; iintro Hh
  iapply (wp_store 𝒱₀ (c : Thread nD τ) none Set.univ (m := hM) (r := rH) (Mk := Finset.univ) (Finset.subset_univ _)) $$ Hh; iintro Hh
  rw [write_h]
  iapply (wp_load 𝒱₀ (c : Thread nD τ) none Set.univ (m := oM) (Finset.subset_univ _)) $$ Ho; iintro Ho
  iapply (wp_store 𝒱₀ (c : Thread nD τ) none Set.univ (m := oM) (r := rO c) (Mk := Finset.univ) (Finset.subset_univ _)) $$ Ho; iintro Ho
  iapply Hk
  isplitl [Hg]; · iexact Hg
  isplitl [Hh]; · iexact Hh
  unfold oRight
  iexists _
  isplitr
  rotate_left
  · iexact Ho
  · ipureintro
    intro i hi
    rw [out_stored c (k0_off5_eq c)]
    have hb : blockOf i = c := by
      by_contra h
      obtain ⟨r, hr⟩ := exists_bw c (blockOf i) h
      exact hi r (mem_turns r) hr.symm
    rw [if_pos hb]
    unfold outAt
    rw [if_pos hb]

/-! ## The gather -/

/-- From the gather's sends to the end. -/
theorem stage_gather (c : Dev nD) (Q : PUnit → sProp 𝕄) :
    iprop((Kept m ρ K c (O2 c turns) ∗ hPts c fullShare (chunk m ρ c) ∗ oRight m ρ c turns)
        ∗ ((bigSepL turns fun r => iprop(∃ f, xPts (F := F) (fw c r) c f))
          ∗ (bigSepL turns fun r => dutyTok ER (dCell 2 c (fw c r)) 0 (fw c r)) ∗ (bigSepL turns fun r => dutyTok ER (dCell 3 (fw c r) c) 0 c))
        ∗ ((bigSepL turns fun r => cred (tallyAt (dCell 3 c (bw c r)) () N)) ∗ (bigSepL turns fun r => atPos ER (dCell 3 c (bw c r)) 0 ∅ 0))
        ∗ ((bigSepL turns fun r => cred (tallyAt (dCell 0 c (fw c r)) () N)) ∗ (bigSepL turns fun r => atPos ER (dCell 0 c (fw c r)) 0 ∅ 0))
        ∗ (bigSepL turns fun r => atPos ER (dCell 2 c (fw c r)) 0 ∅ 0))
      ⊢ iprop(((Kept m ρ K c 0 ∗ hPts c fullShare (chunk m ρ c) ∗ oRight m ρ c [])
            ∗ ((bigSepL turns fun r => xPts c (bw c r) (allChunks m ρ)) ∗ (bigSepL turns fun r => semVal (dCell 3 c (bw c r)) 0))
            ∗ ((bigSepL turns fun r => pPts c (fw c r) (part m ρ c)) ∗ (bigSepL turns fun r => semVal (dCell 0 c (fw c r)) 0))
            ∗ (bigSepL turns fun r => semVal (dCell 2 c (fw c r)) 0) -∗ WP c (.ret ⟨⟩) Q)
          -∗ WP c (prog4 c) Q) := by
  iintro ⟨⟨HC, Hh, Ho⟩, ⟨Hx, Ht2, Ht3⟩, ⟨Hc3, Ha3⟩, ⟨Hc0, Ha0⟩, Ha2⟩ Hk
  unfold prog4
  ihave Hh := (Entails.of_eq (h_lent c (chunk m ρ c))) $$ Hh
  icases Hh with ⟨Hh, Hrem⟩
  iapply (wp_loop (opSend2 c) (fun l => Kept m ρ K c (O2 c l)) _ (fun r => cred (tallyAt (dCell 2 c (fw c r)) () N))
    (fun r l k => step_send2 m ρ K c Q r l k) turns _) $$ [HC Hh Hx Ht2 Ht3]
  · isplitl [HC]; · iexact HC
    rw [bigSepL_sep, bigSepL_sep, bigSepL_sep]
    isplitl [Hh]; · iexact Hh
    isplitl [Hx]; · iexact Hx
    isplitl [Ht2] <;> iassumption
  rw [show O2 c [] = 0 from rfl]
  iintro ⟨HC, Hc2⟩
  iapply (wp_loop (opRecv2 c) (fun l => iprop(Kept m ρ K c 0 ∗ oRight m ρ c l)) _ _
    (fun r l k => step_recv2 m ρ K c Q r l k) turns _) $$ [HC Ho Hc3 Ha3]
  · isplitl [HC Ho]
    · isplitl [HC] <;> iassumption
    rw [bigSepL_sep]
    isplitl [Hc3] <;> iassumption
  rw [bigSepL_sep]
  iintro ⟨⟨HC, Ho⟩, Hx, Hz3⟩
  iapply (wp_loop (opDone c) (fun _ => Kept m ρ K c 0) _ _
    (fun r l k => step_done m ρ K c Q r k) turns _) $$ [HC Hc0 Ha0 Hc2 Ha2]
  · isplitl [HC]; · iexact HC
    rw [bigSepL_sep, bigSepL_sep, bigSepL_sep]
    isplitl [Hc0 Ha0]
    · isplitl [Hc0] <;> iassumption
    · isplitl [Hc2] <;> iassumption
  rw [bigSepL_sep, bigSepL_sep, bigSepL_sep]
  iintro ⟨HC, ⟨Hp, Hz0⟩, Hh, Hz2⟩
  iapply Hk
  isplitl [HC Hh Hrem Ho]
  · isplitl [HC]; · iexact HC
    isplitl [Hh Hrem]
    · rw [h_lent]
      isplitl [Hh] <;> iassumption
    iexact Ho
  isplitl [Hx Hz3]
  · isplitl [Hx] <;> iassumption
  isplitl [Hp Hz0]
  · isplitl [Hp] <;> iassumption
  iexact Hz2

/-! ## The whole body -/

/-- The tokens of the duties device `c` pays. -/
def payToks (c : Dev nD) : sProp 𝕄 :=
  iprop((bigSep (Finset.univ.erase c) fun p => dutyTok ER (barCell p) 0 c)
    ∗ (bigSep (Finset.univ.erase c) fun p => dutyTok ER (dCell 0 c p) 0 p) ∗ (bigSep (Finset.univ.erase c) fun p => dutyTok ER (dCell 1 p c) 0 c)
    ∗ (bigSep (Finset.univ.erase c) fun p => dutyTok ER (dCell 2 c p) 0 p) ∗ (bigSep (Finset.univ.erase c) fun p => dutyTok ER (dCell 3 p c) 0 c))
/-- The credit tokens of device `c`'s receives. -/
def recvCreds (c : Dev nD) : sProp 𝕄 :=
  iprop(cred (tallyAt (barCell c) () 15) ∗ (bigSep (Finset.univ.erase c) fun p => cred (tallyAt (dCell 1 c p) () N))
    ∗ (bigSep (Finset.univ.erase c) fun p => cred (tallyAt (dCell 3 c p) () N)))
/-- Device `c`'s positions. -/
def positions (c : Dev nD) : sProp 𝕄 :=
  iprop(atPos ER (barCell c) 0 ∅ 0 ∗ bigSep Finset.univ fun k : Fin 4 => bigSep Finset.univ fun j : Dev nD => atPos ER (dCell k c j) 0 ∅ 0)
/-- Device `c`'s transfer cells, closed at zero. -/
def closed (c : Dev nD) : sProp 𝕄 :=
  bigSep Finset.univ fun k : Fin 4 => bigSep Finset.univ fun j : Dev nD => semVal (dCell k c j) 0

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem around_fw (c : Dev nD) (Φ : Dev nD → sProp 𝕄) : bigSep Finset.univ Φ = iprop(Φ c ∗ bigSepL turns fun r => Φ (fw c r)) := by
  rw [self_peers c, peers_fw]
theorem around_bw (c : Dev nD) (Φ : Dev nD → sProp 𝕄) : bigSep Finset.univ Φ = iprop(Φ c ∗ bigSepL turns fun r => Φ (bw c r)) := by
  rw [self_peers c, peers_bw]

theorem positions_eq (c : Dev nD) : positions (F := F) c
    = iprop(atPos ER (barCell c) 0 ∅ 0
        ∗ (atPos ER (dCell 0 c c) 0 ∅ 0 ∗ bigSepL turns fun r => atPos ER (dCell 0 c (fw c r)) 0 ∅ 0)
        ∗ (atPos ER (dCell 1 c c) 0 ∅ 0 ∗ bigSepL turns fun r => atPos ER (dCell 1 c (bw c r)) 0 ∅ 0)
        ∗ (atPos ER (dCell 2 c c) 0 ∅ 0 ∗ bigSepL turns fun r => atPos ER (dCell 2 c (fw c r)) 0 ∅ 0)
        ∗ (atPos ER (dCell 3 c c) 0 ∅ 0 ∗ bigSepL turns fun r => atPos ER (dCell 3 c (bw c r)) 0 ∅ 0)) := by
  unfold positions
  rw [bigSep_fin4, around_fw c, around_bw c, around_fw c (fun j => atPos ER (dCell 2 c j) 0 ∅ 0), around_bw c (fun j => atPos ER (dCell 3 c j) 0 ∅ 0)]
theorem closed_eq (c : Dev nD) : closed (F := F) c
    = iprop((semVal (dCell 0 c c) 0 ∗ bigSepL turns fun r => semVal (dCell 0 c (fw c r)) 0)
        ∗ (semVal (dCell 1 c c) 0 ∗ bigSepL turns fun r => semVal (dCell 1 c (bw c r)) 0)
        ∗ (semVal (dCell 2 c c) 0 ∗ bigSepL turns fun r => semVal (dCell 2 c (fw c r)) 0)
        ∗ (semVal (dCell 3 c c) 0 ∗ bigSepL turns fun r => semVal (dCell 3 c (bw c r)) 0)) := by
  unfold closed
  rw [bigSep_fin4, around_fw c, around_bw c, around_fw c (fun j => semVal (dCell 2 c j) 0), around_bw c (fun j => semVal (dCell 3 c j) 0)]
theorem payToks_eq (c : Dev nD) : payToks (F := F) c
    = iprop((bigSepL turns fun r => dutyTok ER (barCell (fw c r)) 0 c)
        ∗ (bigSepL turns fun r => dutyTok ER (dCell 0 c (fw c r)) 0 (fw c r)) ∗ (bigSepL turns fun r => dutyTok ER (dCell 1 (fw c r) c) 0 c)
        ∗ (bigSepL turns fun r => dutyTok ER (dCell 2 c (fw c r)) 0 (fw c r)) ∗ (bigSepL turns fun r => dutyTok ER (dCell 3 (fw c r) c) 0 c)) := by
  unfold payToks
  simp only [peers_fw]
theorem recvCreds_eq (c : Dev nD) : recvCreds (F := F) c
    = iprop(cred (tallyAt (barCell c) () 15) ∗ (bigSepL turns fun r => cred (tallyAt (dCell 1 c (bw c r)) () N))
        ∗ (bigSepL turns fun r => cred (tallyAt (dCell 3 c (bw c r)) () N))) := by
  unfold recvCreds
  simp only [peers_bw]

/-- A transfer's cell at the device's own index, never used, closes at zero. -/
theorem close_own (k : Fin 4) (c : Dev nD) : iprop(records m ρ K ∗ atPos ER (dCell k c c) 0 ∅ 0) ⊢ iprop(|={Set.univ}=> semVal (dCell k c c) 0) := by
  iintro ⟨#HR, Hat⟩
  iapply (Rounds.cell_close ER (Rd m ρ) (Set.mem_univ (K (c, some (k, c)))) (fun h => h) (R := 0) (fun r _ => duties_own m ρ k c r))
  isplitr; · iapply (inv_at m ρ K c (some (k, c))); iexact HR
  iexact Hat

/-- The scratch buffers, holding anything. -/
def scratch (c : Dev nD) : sProp 𝕄 :=
  iprop((∃ f, pFull (F := F) c f) ∗ (∃ f, gFull (F := F) c f) ∗ (∃ f, hPts (F := F) c fullShare f) ∗ ∃ f, xFull (F := F) c f)

/-- The body on device `c`. -/
theorem sound_body (c : Dev nD) (Q : PUnit → sProp 𝕄) :
    iprop((Kept m ρ K c (O₀ c) ∗ positions c ∗ payToks c ∗ recvCreds c ∗ scratch c) ∗ (aPts m ρ c ∗ bPts m ρ c ∗ ∃ g, oPts c g))
      ⊢ iprop(((∃ W, owes (c : Thread nD τ) 0 W) ∗ (scratch c ∗ semVal (barCell c) 0 ∗ closed c)
            ∗ (aPts m ρ c ∗ bPts m ρ c ∗ oPts c (outAt m ρ c)) -∗ Q ⟨⟩) -∗ WP c (prog c) Q) := by
  rw [positions_eq, closed_eq, payToks_eq, recvCreds_eq]
  unfold scratch
  iintro ⟨⟨HC, ⟨HaB, ⟨Ho0, Ha0⟩, ⟨Ho1, Ha1⟩, ⟨Ho2, Ha2⟩, ⟨Ho3, Ha3⟩⟩, ⟨HtB, Ht0, Ht1, Ht2, Ht3⟩, ⟨HcB, Hc1, Hc3⟩, ⟨Hp, Hg, Hh, Hx⟩⟩, ⟨Ha, Hb, Ho⟩⟩ Hk
  unfold prog
  iapply (stage_signals m ρ K c Q (prog1 c)) $$ [HC HtB Hg Hx]
  · isplitl [HC]; · iexact HC
    isplitl [HtB]; · iexact HtB
    isplitl [Hg] <;> iassumption
  iintro ⟨HC, Hg, Hx0⟩
  iapply (stage_product m ρ K c Q) $$ [HC HcB HaB Ha Hb Hp Ht0 Ht1]
  · isplitl [HC HcB HaB]
    · isplitl [HC]; · iexact HC
      isplitl [HcB] <;> iassumption
    isplitl [Ha Hb Hp]
    · isplitl [Ha]; · iexact Ha
      isplitl [Hb] <;> iassumption
    isplitl [Ht0] <;> iassumption
  iintro ⟨HC, ⟨Ha, Hb, Hp⟩, Hxp, HzB, Hc0⟩
  iapply (stage_gathered m ρ K c Q) $$ [HC Hp Hg Hc1 Ha1]
  · isplitl [HC]; · iexact HC
    isplitl [Hp]; · iexact Hp
    isplitl [Hg]; · iexact Hg
    isplitl [Hc1] <;> iassumption
  iintro ⟨HC, Hp, Hg, Hz1⟩
  iapply (stage_reduce m ρ c Q) $$ [Hg Hh Ho]
  · isplitl [Hg]; · iexact Hg
    isplitl [Hh] <;> iassumption
  iintro ⟨Hg, Hh, Ho⟩
  iapply (stage_gather m ρ K c Q) $$ [HC Hh Ho Hxp Ht2 Ht3 Hc3 Ha3 Hc0 Ha0 Ha2]
  · isplitl [HC Hh Ho]
    · isplitl [HC]; · iexact HC
      isplitl [Hh] <;> iassumption
    isplitl [Hxp Ht2 Ht3]
    · isplitl [Hxp]; · iexact Hxp
      isplitl [Ht2] <;> iassumption
    isplitl [Hc3 Ha3]
    · isplitl [Hc3] <;> iassumption
    isplitl [Hc0 Ha0]
    · isplitl [Hc0] <;> iassumption
    iexact Ha2
  unfold Kept oRight
  iintro ⟨⟨⟨#HR, HO⟩, Hh, ⟨%g, %hg, Ho⟩⟩, ⟨Hx, Hz3⟩, ⟨Hps, Hz0⟩, Hz2⟩
  imod (close_own m ρ K 0 c) $$ [Ho0] with Ho0
  · isplitr; · iexact HR
    iexact Ho0
  imod (close_own m ρ K 1 c) $$ [Ho1] with Ho1
  · isplitr; · iexact HR
    iexact Ho1
  imod (close_own m ρ K 2 c) $$ [Ho2] with Ho2
  · isplitr; · iexact HR
    iexact Ho2
  imod (close_own m ρ K 3 c) $$ [Ho3] with Ho3
  · isplitr; · iexact HR
    iexact Ho3
  have hg' : g = outAt m ρ c := funext fun i => hg i fun r hr => absurd hr List.not_mem_nil
  subst hg'
  rw [wp_ret]; imodintro
  iapply Hk
  isplitl [HO]; · iexact HO
  isplitr [Ha Hb Ho]
  · isplitl [Hp Hps Hg Hh Hx Hx0]
    · isplitl [Hp Hps]
      · iexists (part m ρ c)
        rw [p_cut, around_fw c]
        isplitl [Hp] <;> iassumption
      isplitl [Hg]; · iexists _; iexact Hg
      isplitl [Hh]; · iexists _; iexact Hh
      icases Hx0 with ⟨%f0, Hx0⟩
      iapply (x_join c fun j => if j = c then f0 else allChunks m ρ)
      rw [around_bw c, if_pos rfl]
      isplitl [Hx0]; · iexact Hx0
      iapply (bigSepL_mono (M := 𝕄) (l := turns) (Φ := fun r => xPts c (bw c r) (allChunks m ρ))
        (Ψ := fun r => xPts c (bw c r) (if bw c r = c then f0 else allChunks m ρ)) fun r _ => by rw [if_neg (bw_ne c r)])
      iexact Hx
    isplitl [HzB]; · iexact HzB
    isplitl [Ho0 Hz0]
    · isplitl [Ho0] <;> iassumption
    isplitl [Ho1 Hz1]
    · isplitl [Ho1] <;> iassumption
    isplitl [Ho2 Hz2]
    · isplitl [Ho2] <;> iassumption
    isplitl [Ho3] <;> iassumption
  isplitl [Ha]; · iexact Ha
  isplitl [Hb] <;> iassumption

end Cert.ReduceGather

end
-- ==== Proof.Launch.lean ====
/-
# The pipeline's data

The pipeline's proof data around the body, and the body's obligation against them.
-/
module

public import proofs.«01_k».proof.Proof.Body

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The cells' invariants and their reached marks. -/
def shared (K : Dev nD × CI → ℕ) : sProp 𝕄 :=
  iprop((bigSep Finset.univ fun p : Dev nD × CI => cellInv ER (Rd m ρ) (K p) (kcell p.1 p.2))
    ∗ bigSep Finset.univ fun p : Dev nD × CI => reached ER (kcell p.1 p.2) 0)

instance shared_persistent (K : Dev nD × CI → ℕ) : BI.Persistent (shared m ρ K) := by unfold shared; infer_instance

/-- What device `c`'s body starts from, beside its scratch buffers. -/
def start (c : Dev nD) : sProp 𝕄 :=
  iprop((∃ K, shared m ρ K ∗ positions c ∗ payToks c) ∗ recvCreds c ∗ levAts L lv)
/-- Before the only point. -/
def Φ₀ (c : Dev nD) : sProp 𝕄 := iprop(start m ρ c ∗ scratch c)
/-- After it: the scratch buffers, and every cell of the device closed at zero. -/
def Φ₁ (c : Dev nD) : sProp 𝕄 := iprop(scratch c ∗ semVal (barCell c) 0 ∗ closed c)

/-- The pipeline's proof data on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m ρ c
    | ⟨1, _⟩ => argB m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, the windows one by one. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- The body's postcondition, the windows one by one. -/
def bodyPost (c : Dev nD) : sProp 𝕄 :=
  iprop(Φ₁ c ∗ (dats m ρ 0 c).owesAt () t0_0.succ
    ∗ stg c cc0_stg0_0 (argA m ρ c) ∗ stg c cc0_stg1_0 (argB m ρ c) ∗ stg c cc0_stg2_0 (outAt m ρ c))

theorem before_0 (c : Dev nD) (d) : (dats m ρ 0 c).before (0 : Fin 3) t0_0 d = argA m ρ c := by
  unfold Dat.before; rw [if_pos (fetch0_0 t0_0)]; rfl
theorem before_1 (c : Dev nD) (d) : (dats m ρ 0 c).before (1 : Fin 3) t0_0 d = argB m ρ c := by
  unfold Dat.before; rw [if_pos (fetch0_1 t0_0)]; rfl

/-- Reading the device's own index. -/
theorem wp_index (c : Dev nD) (k : Dev nD → KProg F) (Q : PUnit → sProp 𝕄) : WP c (.op .deviceId k) Q = WP c (k c) Q := by
  unfold WP wpE
  rw [wp_deviceId]

/-- The body, from its precondition to its postcondition. -/
theorem body_points (c : Dev nD) : bodyPre m ρ c ⊢ WP c (bodyAt0 t0_0) fun _ => bodyPost m ρ c := by
  rw [body_eq]
  unfold bodyPre Φ₀ start Dat.owesAt Pipeline.owesWithin
  simp only [before_0, before_1]
  iintro ⟨⟨⟨⟨%K, #HS, Hpos, Htok⟩, Hcr, #HL⟩, Hscr⟩, ⟨%W, %hW, HO⟩, ⟨%d0, %g0, %h0, Ha⟩, ⟨%d1, %g1, %h1, Hb⟩, ⟨%d2, %g2, %h2, Ho⟩⟩
  subst h0 h1
  rw [wp_index, show (dats m ρ 0 c).owed t0_0.castSucc = O₀ c from rfl]
  iapply (sound_body m ρ K c fun _ => bodyPost m ρ c) $$ [Hpos Htok Hcr Hscr HO Ha Hb Ho]
  · isplitl [Hpos Htok Hcr Hscr HO]
    · isplitl [HO]
      · unfold Kept records
        isplitr
        · isplitr; · unfold shared; iexact HS
          iexact HL
        iexists W; iexact HO
      isplitl [Hpos]; · iexact Hpos
      isplitl [Htok]; · iexact Htok
      isplitl [Hcr]; · iexact Hcr
      iexact Hscr
    isplitl [Ha]; · iexact Ha
    isplitl [Hb]; · iexact Hb
    iexists g2; iexact Ho
  iintro ⟨⟨%W', HO⟩, HΦ, Ha, Hb, Ho⟩
  unfold bodyPost Φ₁ Dat.owesAt Pipeline.owesWithin
  isplitl [HΦ]; · iexact HΦ
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (bodyAt0 t0_0) fun _ => bodyPost m ρ c
  exact body_points m ρ c

end Cert.ReduceGather

end
-- ==== Proof.Run.lean ====
/-
# The run

What each device is dealt when the sixteen launch together, and the run of the whole program: every device ends with its arrays
at the pipeline's final contents and every counter at zero.
-/
module

public import proofs.«01_k».proof.Proof.Launch
public import Idealize.ShloMosaic.Lib.Pipeline.CollectiveSegs

@[expose] public section

noncomputable section

namespace Cert.ReduceGather

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The sum over a device's cells: the barrier, and each array's. -/
theorem bigSep_ci (Φ : CI → sProp 𝕄) :
    bigSep Finset.univ Φ = iprop(Φ none ∗ bigSep Finset.univ fun k : Fin 4 => bigSep Finset.univ fun j : Dev nD => Φ (some (k, j))) := by
  rw [bigSep_univ_split none, ← bigSep_univ_prod (fun p : Fin 4 × Dev nD => Φ (some p)),
    show (Finset.univ : Finset CI).erase none = Finset.univ.map ⟨some, Option.some_injective _⟩ from by decide +kernel, bigSep_map]
  rfl

/-- The program's cells. -/
def kcells : Finset (GSem nD τ sig) := Finset.univ.map ⟨fun p : Dev nD × CI => kcell p.1 p.2, kcell_injective⟩

/-- The duty tokens minted for device `c`'s cells: for each device, one of the barrier and one of each array's cell of that device. -/
abbrev tokOf (x : Dev nD × (Dev nD ⊕ Fin 4 × Dev nD)) : GSem nD τ sig × ℕ × Dev nD := match x.2 with
  | .inl p => (barCell x.1, 0, p)
  | .inr q => (dCell q.1 x.1 q.2, 0, q.2)

theorem tokOf_injective : Function.Injective tokOf := by
  rintro ⟨c, p | q⟩ ⟨c', p' | q'⟩ h
  · have h1 : (c, (none : CI)) = (c', none) := kcell_injective (congrArg Prod.fst h)
    have h2 : p = p' := congrArg (fun x => x.2.2) h
    rw [h2, (Prod.mk.inj h1).1]
  · have h1 : (c, (none : CI)) = (c', some q') := kcell_injective (congrArg Prod.fst h)
    exact absurd (Prod.mk.inj h1).2 nofun
  · have h1 : (c, (some q : CI)) = (c', none) := kcell_injective (congrArg Prod.fst h)
    exact absurd (Prod.mk.inj h1).2 nofun
  · have h1 : (c, (some q : CI)) = (c', some q') := kcell_injective (congrArg Prod.fst h)
    rw [(Prod.mk.inj h1).1, Option.some.inj (Prod.mk.inj h1).2]

/-- The tokens minted. -/
def ktoks : Finset (GSem nD τ sig × ℕ × Dev nD) := Finset.univ.map ⟨tokOf, tokOf_injective⟩

/-- The launch's resources: the pipeline's and the protocol's. -/
def u₀ : UU := (initOf (Pipeline.cells cfgs cellOf_inj) (Pipeline.launchToks cfgs cellOf_inj), initOf kcells ktoks)

/-- The duty tokens of device `c`'s own cells. -/
def toks (c : Dev nD) : sProp 𝕄 :=
  iprop((bigSep Finset.univ fun p : Dev nD => dutyTok ER (barCell c) 0 p)
    ∗ bigSep Finset.univ fun k : Fin 4 => bigSep Finset.univ fun p : Dev nD => dutyTok ER (dCell k c p) 0 p)

/-- What the launch deals device `c`. -/
def G (c : Dev nD) : sProp 𝕄 :=
  iprop((bigSep Finset.univ fun i : CI => roundState ER (Rd m ρ) (kcell c i) 0)
    ∗ (bigSep Finset.univ fun i : CI => iprop(atPos ER (kcell c i) 0 ∅ 0 ∗ reached ER (kcell c i) 0)) ∗ toks c)

/-- What the global step makes of it. -/
def G' (c : Dev nD) : sProp 𝕄 := iprop(∃ K, shared m ρ K ∗ positions c ∗ payToks c)

theorem fund_cells : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun i : CI => Φ (kcell c i) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum, bigSep_univ_prod]; rfl
  iintro HX
  imod (Rounds.fund ER (Rd m ρ) kcells ktoks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores, by array and index. -/
abbrev osem (p : Fin 4 × Dev nD) : SemLoc sig := .dma (num p.1 p.2)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = closed c := by
  unfold Pipeline.ownSems0 closed
  rw [bigSep_univ_prod]
/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) := by
  rw [ownSems0_eq, unscopedSems0_eq, bigSep_ci]
  unfold closed
  iintro ⟨HD, HB⟩
  isplitl [HB] <;> iassumption

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell c i)))
          ∗ (bigSep Finset.univ fun i : CI => iprop(atPos ER (kcell c i) 0 ∅ 0 ∗ reached ER (kcell c i) 0)) ∗ toks c) := by
  have h : iprop((bigSep Finset.univ fun i : CI => semVal (kcell c i) 0) ∗ bigSep Finset.univ fun i : CI => roundState ER (Rd m ρ) (kcell c i) 0)
      ⊢ (|={Set.univ}=> bigSep Finset.univ fun i : CI => iprop(∃ κ : ℕ, cellInv ER (Rd m ρ) κ (kcell c i)) : sProp 𝕄) := by
    rw [← bigSep_sep']
    exact (bigSep_mono fun i _ => (Rounds.body_intro ER (Rd m ρ) (kcell c i)).trans inv_alloc).trans (bigSep_fupd _ _)
  unfold G
  iintro ⟨Hos, Hus, Hst, Hat, Htok⟩
  ihave Hv := (sems0_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-! ## Dealing the tokens -/

/-- Each token goes to the device that pays with it. -/
theorem toks_around : (bigSep Finset.univ fun c : Dev nD => (toks c : sProp 𝕄)) ⊢ bigSep Finset.univ fun c : Dev nD => payToks c := by
  have h : (bigSep Finset.univ fun c : Dev nD => (toks c : sProp 𝕄)) ⊢ bigSep Finset.univ fun c : Dev nD =>
      iprop((bigSep (Finset.univ.erase c) fun p => dutyTok ER (barCell c) 0 p)
        ∗ (bigSep (Finset.univ.erase c) fun p => dutyTok ER (dCell 0 c p) 0 p) ∗ (bigSep (Finset.univ.erase c) fun p => dutyTok ER (dCell 1 c p) 0 p)
        ∗ (bigSep (Finset.univ.erase c) fun p => dutyTok ER (dCell 2 c p) 0 p) ∗ (bigSep (Finset.univ.erase c) fun p => dutyTok ER (dCell 3 c p) 0 p)) :=
    bigSep_mono fun c _ => by
      have he (Φ : Dev nD → sProp 𝕄) : bigSep Finset.univ Φ ⊢ bigSep (Finset.univ.erase c) Φ := bigSep_subset (Finset.erase_subset _ _)
      unfold toks; rw [bigSep_fin4]
      exact BIClass.sep_mono (he _) (BIClass.sep_mono (he _) (BIClass.sep_mono (he _) (BIClass.sep_mono (he _) (he _))))
  refine h.trans ?_
  unfold payToks
  rw [bigSep_sep', bigSep_sep', bigSep_sep', bigSep_sep', bigSep_sep', bigSep_sep', bigSep_sep', bigSep_sep',
    bigSep_erase_comm (fun c p => dutyTok ER (barCell c) 0 p), bigSep_erase_comm (fun c p => dutyTok ER (dCell 1 c p) 0 p),
    bigSep_erase_comm (fun c p => dutyTok ER (dCell 3 c p) 0 p)]

/-- A persistent fact serves every summand. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_ci (c : Dev nD) : (bigSep Finset.univ fun i : CI => (atPos ER (kcell c i) 0 ∅ 0 : sProp 𝕄)) = positions c := by
  rw [bigSep_ci]; rfl

theorem regroup :
    (bigSep Finset.univ fun c : Dev nD => iprop((bigSep Finset.univ fun i : CI => iprop(∃ κ : ℕ, cellInv ER (Rd m ρ) κ (kcell c i)))
          ∗ (bigSep Finset.univ fun i : CI => iprop(atPos ER (kcell c i) 0 ∅ 0 ∗ reached ER (kcell c i) 0)) ∗ toks c) : sProp 𝕄)
      ⊢ bigSep Finset.univ (G' m ρ) := by
  have hA (c : Dev nD) : bigSep Finset.univ (fun i : CI => iprop((atPos ER (kcell c i) 0 ∅ 0 : sProp 𝕄) ∗ reached ER (kcell c i) 0))
      = iprop(positions c ∗ bigSep Finset.univ fun i : CI => reached ER (kcell c i) 0) := by rw [bigSep_sep', positions_ci]
  simp only [hA]
  rw [bigSep_sep', bigSep_sep', bigSep_sep', ← bigSep_univ_prod (fun p : Dev nD × CI => iprop(∃ κ : ℕ, cellInv ER (Rd m ρ) κ (kcell p.1 p.2))),
    ← bigSep_univ_prod (fun p : Dev nD × CI => (reached ER (kcell p.1 p.2) 0 : sProp 𝕄))]
  iintro ⟨HI, ⟨Hat, #HR⟩, Htok⟩
  ihave HK := (BI.bigSep_exists_pi Finset.univ (fun (p : Dev nD × CI) (κ : ℕ) => (cellInv ER (Rd m ρ) κ (kcell p.1 p.2) : sProp 𝕄))) $$ HI
  icases HK with ⟨%K, #HI⟩
  ihave Htk := (toks_around (F := F)) $$ Htok
  iapply (bigSep_with (R := shared m ρ K) (Φ := fun c : Dev nD => iprop(positions c ∗ payToks c)) fun c _ => show _ ⊢ G' m ρ c from by
    unfold G'; iintro ⟨#HS, Hp, Ht⟩
    iexists K
    isplitr; · iexact HS
    isplitl [Hp] <;> iassumption)
  isplitr
  · unfold shared; isplitl; · iexact HI
    iexact HR
  · rw [bigSep_sep']
    isplitl [Hat] <;> iassumption

/-- All the devices' semaphores and shares of the launch, at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum of tallies, one per peer, at a cell. -/
theorem sum_tally (S : Finset (Dev nD)) (f : Dev nD → GSem nD τ sig) (n : ℕ) (g : GSem nD τ sig) :
    (∑ p ∈ S, tallyAt (f p) () n : CellTallies nD τ sig Unit) g () = ∑ p ∈ S, if g = f p then n else 0 := by
  rw [Finset.sum_apply, Finsupp.finset_sum_apply]
  refine Finset.sum_congr rfl fun p _ => ?_
  rw [tallyAt_apply]
  simp only [and_true]

theorem kcell_eq {c c' : Dev nD} {i i' : CI} : (kcell c i = kcell c' i') = (c = c' ∧ i = i') :=
  propext ⟨fun h => Prod.mk.inj (kcell_injective (a₁ := (c, i)) (a₂ := (c', i')) h), fun h => by rw [h.1, h.2]⟩

/-- What a family of peers' cells of one index are owed at one cell. -/
theorem sum_cells (d c : Dev nD) (i i' : CI) (n : ℕ) (h : i = i' → c ≠ d) :
    (∑ p ∈ Finset.univ.erase d, tallyAt (kcell p i') () n : CellTallies nD τ sig Unit) (kcell c i) () = if i = i' then n else 0 := by
  rw [sum_tally]
  by_cases hi : i = i'
  · rw [if_pos hi, Finset.sum_eq_single c]
    · rw [if_pos (kcell_eq.mpr ⟨rfl, hi⟩)]
    · intro p _ hp
      exact if_neg fun h' => hp (kcell_eq.mp h').1.symm
    · exact fun h' => absurd (Finset.mem_erase.mpr ⟨h hi, Finset.mem_univ _⟩) h'
  · rw [if_neg hi]
    exact Finset.sum_eq_zero fun p _ => if_neg fun h' => hi (kcell_eq.mp h').2

/-- What device `d` owes another's barrier: a unit. -/
theorem owed_bar (d c : Dev nD) : O₀ d (barCell c) () = if d = c then 0 else 1 := by
  unfold O₀ O2 O1 OB
  rw [tal_peers d fun p => tallyAt (dCell 3 p d) () N, tal_peers d fun p => tallyAt (dCell 1 p d) () N, tal_peers d fun p => tallyAt (barCell p) () 1,
    Pi.add_apply, Finsupp.add_apply, Pi.add_apply, Finsupp.add_apply, sum_cells d c none (some (3, d)) N nofun,
    sum_cells d c none (some (1, d)) N nofun, if_neg (c := (none : CI) = some (3, d)) nofun, if_neg (c := (none : CI) = some (1, d)) nofun]
  by_cases h : d = c
  · rw [if_pos h, sum_tally]
    exact (Nat.zero_add _).trans (Finset.sum_eq_zero fun p hp => if_neg fun h' => (Finset.mem_erase.mp hp).1 ((kcell_eq.mp h').1.symm.trans h.symm))
  · rw [if_neg h, sum_cells d c none none 1 fun _ h' => h h'.symm, if_pos rfl]

/-- What device `d` owes another's cell of array 1 or 3: the transfer's credit, at its own index. -/
theorem owed_dma (k : Fin 4) (hk : k = 1 ∨ k = 3) (d c j : Dev nD) (hj : j ≠ c) : O₀ d (dCell k c j) () = if d = j then N else 0 := by
  have hs (k' : Fin 4) : (some (k, j) : CI) = some (k', d) → c ≠ d := fun h h' => hj ((Prod.mk.inj (Option.some.inj h)).2.trans h'.symm)
  unfold O₀ O2 O1 OB
  rw [tal_peers d fun p => tallyAt (dCell 3 p d) () N, tal_peers d fun p => tallyAt (dCell 1 p d) () N, tal_peers d fun p => tallyAt (barCell p) () 1,
    Pi.add_apply, Finsupp.add_apply, Pi.add_apply, Finsupp.add_apply, sum_cells d c _ (some (3, d)) N (hs 3),
    sum_cells d c _ (some (1, d)) N (hs 1),
    sum_cells d c (some (k, j)) none 1 nofun, if_neg (c := (some (k, j) : CI) = none) nofun, Nat.add_zero]
  rcases hk with rfl | rfl
  · rw [if_neg (by decide +revert), Nat.zero_add]
    exact if_congr ⟨fun h => (Prod.mk.inj (Option.some.inj h)).2.symm, fun h => by rw [h]⟩ rfl rfl
  · rw [if_neg (c := (some ((3 : Fin 4), j) : CI) = some (1, d)) (by decide +revert), Nat.add_zero]
    exact if_congr ⟨fun h => (Prod.mk.inj (Option.some.inj h)).2.symm, fun h => by rw [h]⟩ rfl rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_dma (k : Fin 4) (hk : k = 1 ∨ k = 3) (c j : Dev nD) (hj : j ≠ c) :
    tallyOn (dCell k c j) (launchCredit (Pipeline.owing O₀) 0 (dCell k c j)) = (tallyAt (dCell k c j) () N : CellTallies nD τ sig Unit) := by
  unfold tallyAt; refine congrArg _ (Finsupp.ext fun u => ?_); cases u
  rw [Pipeline.launchCredit_owing, Finsupp.single_eq_same, Finset.sum_congr rfl fun d _ => owed_dma k hk d c j hj,
    Finset.sum_ite_eq' Finset.univ j fun _ => N, if_pos (Finset.mem_univ _)]

theorem creds (c : Dev nD) : (Pipeline.launchCred O₀ c : sProp 𝕄) ⊢ recvCreds c := by
  have hr (k : Fin 4) (hk : k = 1 ∨ k = 3) :
      (bigSep Finset.univ fun j : Dev nD => (cred (tallyOn (dCell k c j) (launchCredit (Pipeline.owing O₀) 0 (dCell k c j))) : sProp 𝕄))
        ⊢ bigSep (Finset.univ.erase c) fun j => cred (tallyAt (dCell k c j) () N) :=
    (bigSep_subset (Finset.erase_subset _ _)).trans (Entails.of_eq (bigSep_congr fun j hj => by rw [launch_dma k hk c j (Finset.mem_erase.mp hj).1]))
  have h : (Pipeline.launchCred O₀ c : sProp 𝕄) ⊢ bigSep Finset.univ fun i : CI => cred (tallyOn (kcell c i) (launchCredit (Pipeline.owing O₀) 0 (kcell c i))) := by
    unfold Pipeline.launchCred
    refine BIBase.Entails.trans (bigSep_subset (Finset.subset_univ (Finset.univ.map ⟨csem, csem_injective⟩))) (Entails.of_eq ?_)
    rw [bigSep_map]; rfl
  refine h.trans ?_
  rw [bigSep_ci, bigSep_fin4, launch_bar]
  unfold recvCreds
  iintro ⟨HB, -, H1, -, H3⟩
  isplitl [HB]; · iexact HB
  isplitl [H1]
  · iapply (hr 1 (Or.inl rfl)); iexact H1
  · iapply (hr 3 (Or.inr rfl)); iexact H3

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch hPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch hPts
  iintro ⟨Hr, HzB, HzD⟩
  isplitl [HzB]; · iexact HzB
  isplitl [HzD] <;> iassumption

/-- The staging waits: everything a device owes is above the staging cells. -/
theorem waits (c : Dev nD) : (levAts L lv : sProp 𝕄) ⊢ Pipeline.cellsWaits cfgs (dats m ρ) () 0 c :=
  Pipeline.cellsWaits_intro cfgs (dats m ρ) () 0 c fun w s t =>
    mayWait c _ (n := 0) _ (by
      rcases t with ⟨_ | _, ht⟩
      · exact above_O₀ c
      · exact above_zero) (by fin_cases w <;> fin_cases s <;> decide +kernel)

/-- The array of window `w` on device `c` at the end. -/
def finalA (c : Dev nD) (w : Fin cfg0.W) : Buf (Elt F) ((cfg0.win w).arr.view.loc (c : Thread nD τ)) := (dats m ρ 0 c).arrAt w cfg0.N

/-- Every device's arrays hold their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the sixteen devices' programs
    ends, with each device's arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.ReduceGather

end
-- ==== Proof.Value.lean ====
/-
# The value

What the run leaves, in closed form: every device's result is, entry by entry, silu of the entry of the whole product.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Pointwise
public import Idealize.ShloMosaic.Lib.MatmulPlain
public import Idealize.ShloMosaic.Lib.StackMember
public import Idealize.ShloMosaic.Lib.IdealHost
public import Idealize.ShloMosaic.Lib.Layout
public import Idealize.ShloMosaic.Lib.Quiescent

@[expose] public section

noncomputable section

namespace Cert.ReduceGather

open Cert.KernelIdeal Cert.KernelIdeal.Gen

open Idealize.ShloMosaic
open Idealize.ShloMosaic.TcCoe
open Idealize.SL.Sem
open scoped BigOperators

/-! ## The arrays at the end -/

section Arrays

variable {F : FTy → Type} [FloatOps F]
variable (m : (ℓ : Loc nD τ sig) → Buf (Elt F) ℓ) (ρ : Dev nD → PrngReg)

/-- The array of `A` ends as it began. -/
theorem finalA_a (c : Dev nD) : finalA m ρ c (0 : Fin 3) = m ((c : Thread nD τ).loc main_arg0) :=
  (dats (F := F) m ρ 0 c).arrAt_in (0 : Fin 3) rfl _

/-- The array of `B` ends as it began. -/
theorem finalA_b (c : Dev nD) : finalA m ρ c (1 : Fin 3) = m ((c : Thread nD τ).loc main_arg1) :=
  (dats (F := F) m ρ 0 c).arrAt_in (1 : Fin 3) rfl _

/-- The block of `A` a device stages is its whole array. -/
theorem argA_eq (c : Dev nD) : argA m ρ c = m ((c : Thread nD τ).loc main_arg0) := by
  have hz : (fun a => (win0_0.index (0 : Fin 1)) a * main_arg0.ty.shape.size a) = fun _ => 0 := funext fun a => by fin_cases a <;> rfl
  unfold argA
  exact Memref.read_access_unit_zero _ _ hz _ _

/-- The block of `B` a device stages is its whole array. -/
theorem argB_eq (c : Dev nD) : argB m ρ c = m ((c : Thread nD τ).loc main_arg1) := by
  have hz : (fun a => (win0_1.index (0 : Fin 1)) a * main_arg1.ty.shape.size a) = fun _ => 0 := funext fun a => by fin_cases a <;> rfl
  unfold argB
  exact Memref.read_access_unit_zero _ _ hz _ _

/-- The result array ends as what the device's body leaves in the staging buffer. -/
theorem finalA_out (c : Dev nD) : finalA m ρ c (2 : Fin 3) = outAt m ρ c := by
  have hz : (fun a => (win0_2.index (0 : Fin 1)) a * main_v1.ty.shape.size a) = fun _ => 0 := funext fun a => by fin_cases a <;> rfl
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero _ _ hz _ _).symm.trans h

end Arrays

/-! ## Extended reals -/

/-- Silu of `z`: `z / (1 + exp (-z))`. -/
def silu (z : EReal) : EReal := Ideal.div z (1 + Ideal.exp (-z))

/-- The exponential is not negative. -/
theorem exp_nonneg (x : EReal) : 0 ≤ Ideal.exp x := by
  induction x using EReal.rec with
  | bot => simp
  | top => simp
  | coe r => rw [Ideal.exp_coe]; exact EReal.coe_nonneg.mpr (Real.exp_pos r).le

/-- One more than an exponential is not zero. -/
theorem one_add_exp_ne_zero (x : EReal) : 1 + Ideal.exp x ≠ 0 := by
  have h : (1 : EReal) ≤ 1 + Ideal.exp x := le_add_of_nonneg_right (exp_nonneg x)
  exact (lt_of_lt_of_le zero_lt_one h).ne'

/-- The kernel's spelling of silu, a product with a reciprocal. -/
theorem silu_recip (z : EReal) : z * Ideal.div 1 (1 + Ideal.exp (0 - z)) = silu z := by
  unfold silu Ideal.div
  rw [zero_sub, if_neg (one_add_exp_ne_zero _), if_neg (one_add_exp_ne_zero _), one_mul]

/-- A sum over 4096 positions, cut in sixteen runs of 256. -/
theorem sum_runs (f : Fin 4096 → EReal) :
    ∑ k, f k = ∑ c : Fin 16, ∑ k : Fin 256, f ⟨c.val * 256 + k.val, by omega⟩ := by
  rw [← Fintype.sum_prod_type' (f := fun (c : Fin 16) (k : Fin 256) => f ⟨c.val * 256 + k.val, by omega⟩)]
  refine (Fintype.sum_equiv (finProdFinEquiv (m := 16) (n := 256)) _ _ fun p => ?_).symm
  refine congrArg f (Fin.ext ?_)
  show p.1.val * 256 + p.2.val = p.2.val + 256 * p.1.val
  omega

/-! ## The payloads at an index -/

/-- An entry of a device's partial product. -/
theorem pay1_apply (a : FVec Ideal S512x256 .bf16) (b : FVec Ideal S256x512 .bf16) (r : Fin 512) (l : Fin 512) :
    k0_pay1 (F := Ideal) a b (ValueIdx.ix2 r l) = ∑ k : Fin 256, a (ValueIdx.ix2 r k) * b (ValueIdx.ix2 k l) := by
  pointwise [k0_pay1]
  rfl

/-- An entry of a device's reduced chunk: silu of the sum of the sixteen slots' entries. -/
theorem pay3_apply (g : FVec Ideal S16x32x512 .bf16) (r : Fin 32) (l : Fin 512) :
    k0_pay3 (F := Ideal) g (ValueIdx.ix2 r l) = silu (∑ k : Fin 16, g (ValueIdx.ix3 k r l)) := by
  rw [← silu_recip]
  pointwise [k0_pay3]
  rfl

/-- Rounding a chunk and widening it again leaves it, at the extended reals. -/
theorem pay5_pay4 (g : FVec Ideal S16x32x512 .bf16) (i : S32x512.Idx) :
    k0_pay5 (F := Ideal) (k0_pay4 (F := Ideal) g) i = k0_pay3 (F := Ideal) g i := by
  pointwise [k0_pay5, k0_pay4]

/-! ## The result in closed form -/

/-- An entry of the product of a `512 × 4096` by a `4096 × 512` matrix. -/
def prod (A : FVec Ideal ⟨2, ![512, 4096]⟩ .bf16) (B : FVec Ideal ⟨2, ![4096, 512]⟩ .bf16) (r l : Fin 512) : EReal :=
  ∑ k : Fin 4096, A (ValueIdx.ix2 r k) * B (ValueIdx.ix2 k l)

/-- What every device's result holds: silu of the product, entry by entry. -/
def whole (A : FVec Ideal ⟨2, ![512, 4096]⟩ .bf16) (B : FVec Ideal ⟨2, ![4096, 512]⟩ .bf16) : FVec Ideal ⟨2, ![512, 512]⟩ .f32 :=
  fun i => silu (prod A B (i 0) (i 1))

/-- The sixteen partial products of the blocks add up to the whole product. -/
theorem sum_blocks (A : FVec Ideal ⟨2, ![512, 4096]⟩ .bf16) (B : FVec Ideal ⟨2, ![4096, 512]⟩ .bf16) (r l : Fin 512) :
    ∑ c : Fin 16, ∑ k : Fin 256,
        Layout.block ⟨2, ![512, 256]⟩ ⟨2, ![512, 4096]⟩ 1 16 c A (by decide) (ValueIdx.ix2 r k)
          * Layout.block ⟨2, ![256, 512]⟩ ⟨2, ![4096, 512]⟩ 0 16 c B (by decide) (ValueIdx.ix2 k l)
      = prod A B r l := by
  unfold prod
  rw [sum_runs]
  refine Finset.sum_congr rfl fun c _ => Finset.sum_congr rfl fun k _ => ?_
  have ha : (show Layout.Tiles ⟨2, ![512, 256]⟩ ⟨2, ![512, 4096]⟩ 1 16 by decide).idx c (ValueIdx.ix2 r k)
      = ValueIdx.ix2 r (⟨c.val * 256 + k.val, by omega⟩ : Fin 4096) := by
    refine funext fun a => Fin.ext ?_
    fin_cases a <;> rfl
  have hb : (show Layout.Tiles ⟨2, ![256, 512]⟩ ⟨2, ![4096, 512]⟩ 0 16 by decide).idx c (ValueIdx.ix2 k l)
      = ValueIdx.ix2 (⟨c.val * 256 + k.val, by omega⟩ : Fin 4096) l := by
    refine funext fun a => Fin.ext ?_
    fin_cases a <;> rfl
  rw [Layout.block_apply, Layout.block_apply, ha, hb]

section Closed

variable (m : (ℓ : Loc nD τ sig) → Buf (Elt Ideal) ℓ) (ρ : Dev nD → PrngReg)
variable (A : FVec Ideal ⟨2, ![512, 4096]⟩ .bf16) (B : FVec Ideal ⟨2, ![4096, 512]⟩ .bf16)

/-- An entry of what device `j` gathers in slot `k`: the entry of device `k`'s partial product, in block `j`. -/
theorem gath_apply (hA : ∀ c : Dev nD, m ((c : Thread nD τ).loc main_arg0) = Layout.block ⟨2, ![512, 256]⟩ ⟨2, ![512, 4096]⟩ 1 16 c A)
    (hB : ∀ c : Dev nD, m ((c : Thread nD τ).loc main_arg1) = Layout.block ⟨2, ![256, 512]⟩ ⟨2, ![4096, 512]⟩ 0 16 c B)
    (i : S512x512.Idx) (k : Fin 16) :
    gath m ρ (blockOf i) (ValueIdx.ix3 k (rowIn i 0) (rowIn i 1))
      = ∑ n : Fin 256, Layout.block ⟨2, ![512, 256]⟩ ⟨2, ![512, 4096]⟩ 1 16 k A (by decide) (ValueIdx.ix2 (i 0) n)
          * Layout.block ⟨2, ![256, 512]⟩ ⟨2, ![4096, 512]⟩ 0 16 k B (by decide) (ValueIdx.ix2 n (i 1)) := by
  have hr : rowOf (blockOf i) (slotIn (ValueIdx.ix3 k (rowIn i 0) (rowIn i 1))) = ValueIdx.ix2 (i 0) (i 1) := by
    have h : slotIn (ValueIdx.ix3 k (rowIn i 0) (rowIn i 1)) = rowIn i := (ValueIdx.eq_ix2 (rowIn i)).symm
    rw [h, rowOf_rowIn]
    exact ValueIdx.eq_ix2 i
  show part m ρ k (rowOf (blockOf i) (slotIn (ValueIdx.ix3 k (rowIn i 0) (rowIn i 1)))) = _
  rw [hr]
  unfold part
  rw [argA_eq, argB_eq, hA, hB]
  exact pay1_apply _ _ (i 0) (i 1)

/-- Every device's result is silu of the whole product. -/
theorem outAt_eq (hA : ∀ c : Dev nD, m ((c : Thread nD τ).loc main_arg0) = Layout.block ⟨2, ![512, 256]⟩ ⟨2, ![512, 4096]⟩ 1 16 c A)
    (hB : ∀ c : Dev nD, m ((c : Thread nD τ).loc main_arg1) = Layout.block ⟨2, ![256, 512]⟩ ⟨2, ![4096, 512]⟩ 0 16 c B)
    (c : Dev nD) : outAt m ρ c = whole A B := by
  funext i
  have h : outAt m ρ c i = k0_pay3 (F := Ideal) (gath m ρ (blockOf i)) (rowIn i) := by
    unfold outAt
    split
    · next h => rw [h]
    · exact pay5_pay4 _ _
  rw [h, ValueIdx.eq_ix2 (rowIn i)]
  refine (pay3_apply _ (rowIn i 0) (rowIn i 1)).trans (congrArg silu ?_)
  rw [← sum_blocks A B (i 0) (i 1)]
  exact Finset.sum_congr rfl fun k _ => gath_apply m ρ A B hA hB i k

end Closed

/-- The reference's result is silu of the whole product. -/
theorem ref_eq (A : FVec Ideal ⟨2, ![512, 4096]⟩ .bf16) (B : FVec Ideal ⟨2, ![4096, 512]⟩ .bf16) (i : Cert.ReferenceIdeal.S512x512.Idx) :
    Host.divf (extf .f32 (truncf .bf16 (Host.dotGeneral Cert.ReferenceIdeal.dot_S512x4096_S4096x512_S512x512_1_0_0_1_n_n none
          (extf .f32 A Cert.ReferenceIdeal.Facts₀.bitsLt_bf16_f32) (extf .f32 B Cert.ReferenceIdeal.Facts₀.bitsLt_bf16_f32)) Cert.ReferenceIdeal.Facts₀.bitsLt_bf16_f32) Cert.ReferenceIdeal.Facts₀.bitsLt_bf16_f32)
        (addf (broadcastInDim Cert.ReferenceIdeal.S512x512 ![] Cert.ReferenceIdeal.Facts₀.bcast_S_S512x512 (constant Cert.ReferenceIdeal.S_ .f32 0x3F800000#32))
          (Host.exp (Host.negf (extf .f32 (truncf .bf16 (Host.dotGeneral Cert.ReferenceIdeal.dot_S512x4096_S4096x512_S512x512_1_0_0_1_n_n none
            (extf .f32 A Cert.ReferenceIdeal.Facts₀.bitsLt_bf16_f32) (extf .f32 B Cert.ReferenceIdeal.Facts₀.bitsLt_bf16_f32)) Cert.ReferenceIdeal.Facts₀.bitsLt_bf16_f32) Cert.ReferenceIdeal.Facts₀.bitsLt_bf16_f32)))) i
      = whole A B i := by
  pointwise
  rfl

/-! ## The claims -/

/-- The kernel ends, its arguments as they were and every counter at zero, whatever the float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main (F := F) m ρ)

/-- The table of kernel bodies printed for the machine's formats is the one printed for the extended reals. -/
theorem bodies_same {F : FTy → Type} [FloatOps F] : Cert.Kernel.defs₀ (F := F) = Cert.KernelIdeal.defs₀ (F := F) :=
  congrArg Defs.onTc (funext fun l => funext fun x => match l, x with
    | ⟨0, _⟩, (t, s) => rfl
    | ⟨_ + 1, h⟩, _ => absurd h (Nat.not_lt.2 (Nat.le_add_left _ _)))

/-- And so is the program's table. -/
theorem defs_same {F : FTy → Type} [FloatOps F] : Cert.KernelIdeal.defs (F := F) = Cert.Kernel.defs (F := F) :=
  congrArg (Pipeline.defs (Cert.KernelIdeal.pcfgs (F := F))) bodies_same.symm

/-- The kernel's frame at the machine's formats. -/
theorem frame_kernel : Cert.quiescent_Kernel := fun m ρ _ => by
  have h := frame_any (F := Bits) m ρ
  rw [defs_same] at h
  exact h

/-- The kernel's frame at the extended reals. -/
theorem frame_kernelIdeal : Cert.quiescent_KernelIdeal := fun m ρ _ => frame_any (F := Ideal) m ρ

/-- The reference ends, its arguments as they were and every counter at zero. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- Where the devices hold the blocks of the reference's arguments, each ends with the reference's result. -/
theorem value : Cert.algebraic_KernelIdeal_ReferenceIdeal := by
  intro m ρ m' ρ' _ hagree
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, (h.1 c (0 : Fin 3)).trans (finalA_a m ρ c),
      (h.1 c (1 : Fin 3)).trans (finalA_b m ρ c)⟩) (run_main (F := Ideal) m ρ)
    exact (h.1 c (2 : Fin 3)).trans ((finalA_out m ρ c).trans
      (outAt_eq m ρ _ _ (fun c => (hagree c).1) (fun c => (hagree c).2) c))
  · exact (θ_run Cert.ReferenceIdeal.defs _ _).mono (fun _ h => ⟨(h 0).1.trans (funext fun i => ref_eq _ _ i), (h 0).2⟩)
      (Cert.ReferenceIdeal.Value.run (F := Ideal) m' ρ')

end Cert.ReduceGather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

/-- Every claim of the certificate. -/
theorem claim : Cert.Claim := ⟨Cert.Kernel.Gen.facts, Cert.KernelIdeal.Gen.facts, Cert.ReferenceIdeal.Gen.facts,
  Cert.ReduceGather.frame_kernel, Cert.ReduceGather.frame_kernelIdeal, Cert.ReduceGather.frame_reference, trivial,
  Cert.ReduceGather.value⟩

end Cert.Proof

end
